-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_inv_temperature" .f32 0xC1649249#32 ((-134217728 / 9395241 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2x512 : Shape := ⟨3, ![1024, 2, 512]⟩
abbrev S1024 : Shape := ⟨1, ![1024]⟩
abbrev S2x1024x512 : Shape := ⟨3, ![2, 1024, 512]⟩
abbrev S2048x512 : Shape := ⟨2, ![2048, 512]⟩
abbrev S1x1024 : Shape := ⟨2, ![1, 1024]⟩
abbrev S2x1024 : Shape := ⟨2, ![2, 1024]⟩
abbrev S2048 : Shape := ⟨1, ![2048]⟩
abbrev S1x2048 : Shape := ⟨2, ![1, 2048]⟩
abbrev S2048x1 : Shape := ⟨2, ![2048, 1]⟩
abbrev S128x512 : Shape := ⟨2, ![128, 512]⟩
abbrev S128x1 : Shape := ⟨2, ![128, 1]⟩
abbrev S128x2048 : Shape := ⟨2, ![128, 2048]⟩
abbrev S128 : Shape := ⟨1, ![128]⟩
abbrev S1x512 : Shape := ⟨2, ![1, 512]⟩
abbrev S128x128 : Shape := ⟨2, ![128, 128]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S1024x2x512, .f32⟩
  | .hbm, ⟨1, _⟩ => ⟨S1024, .f32⟩
  | .hbm, ⟨2, _⟩ => ⟨S2x1024x512, .f32⟩
  | .hbm, ⟨3, _⟩ => ⟨S2048x512, .f32⟩
  | .hbm, ⟨4, _⟩ => ⟨S1x1024, .f32⟩
  | .hbm, ⟨5, _⟩ => ⟨S2x1024, .f32⟩
  | .hbm, ⟨6, _⟩ => ⟨S2048, .f32⟩
  | .hbm, ⟨7, _⟩ => ⟨S1x2048, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S2048x512, .f32⟩
  | .local _ .vmem, ⟨3, _⟩ => ⟨S1x2048, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | _, _ => ⟨S1024x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32_17 : BitVec 32 := 128#32
  let v44 : BitVec 32 := Scalar.addi c0_i32 c128_i32_17
  let c1_i32 : BitVec 32 := 1#32
  ⟨c0_i32, v44, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "neg_inv_temperature" => some ((-134217728 / 9395241 : ℝ) : EReal)
  | _ => none
-- ==== ReferenceIdeal.lean ====
abbrev S1024x2x512 : Shape := ⟨3, ![1024, 2, 512]⟩
abbrev S1024 : Shape := ⟨1, ![1024]⟩
abbrev S2x1024x512 : Shape := ⟨3, ![2, 1024, 512]⟩
abbrev S2048x512 : Shape := ⟨2, ![2048, 512]⟩
abbrev S1x1024 : Shape := ⟨2, ![1, 1024]⟩
abbrev S2x1024 : Shape := ⟨2, ![2, 1024]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S512x2048 : Shape := ⟨2, ![512, 2048]⟩
abbrev S2048x2048x1 : Shape := ⟨3, ![2048, 2048, 1]⟩
abbrev S1 : Shape := ⟨1, ![1]⟩
abbrev S1x1x1 : Shape := ⟨3, ![1, 1, 1]⟩
abbrev S2048x2049 : Shape := ⟨2, ![2048, 2049]⟩
abbrev S2048x1x2048 : Shape := ⟨3, ![2048, 1, 2048]⟩
abbrev S2048x2048x2048 : Shape := ⟨3, ![2048, 2048, 2048]⟩

abbrev nBuf : Space → Nat
  | .hbm => 168
  | .vmem => 0
  | .smem => 0
  | _ => 0

abbrev hbmTy0_0 (i : Nat) : BufTy := match i % 128 with
  | 0 => ⟨S1024x2x512, .f32⟩
  | 1 => ⟨S1024, .f32⟩
  | 2 => ⟨S2x1024x512, .f32⟩
  | 3 => ⟨S2048x512, .f32⟩
  | 4 => ⟨S1x1024, .f32⟩
  | 5 => ⟨S2x1024, .f32⟩
  | 6 => ⟨S2048, .f32⟩
  | 7 => ⟨S2048x512, .f32⟩
  | 8 => ⟨S_, .f32⟩
  | 9 => ⟨S2048, .f32⟩
  | 10 => ⟨S2048x1, .f32⟩
  | 11 => ⟨S1x2048, .f32⟩
  | 12 => ⟨S2048x2048, .f32⟩
  | 13 => ⟨S2048x2048, .f32⟩
  | 14 => ⟨S2048x2048, .f32⟩
  | 15 => ⟨S512x2048, .f32⟩
  | 16 => ⟨S2048x2048, .f32⟩
  | 17 => ⟨S_, .f32⟩
  | 18 => ⟨S2048x2048, .f32⟩
  | 19 => ⟨S2048x2048, .f32⟩
  | 20 => ⟨S2048x2048, .f32⟩
  | 21 => ⟨S_, .f32⟩
  | 22 => ⟨S2048x2048, .f32⟩
  | 23 => ⟨S2048x2048, .f32⟩
  | 24 => ⟨S_, .f32⟩
  | 25 => ⟨S2048x2048, .f32⟩
  | 26 => ⟨S2048x2048, .i1⟩
  | 27 => ⟨S_, .f32⟩
  | 28 => ⟨S_, .f32⟩
  | 29 => ⟨S2048x2048, .f32⟩
  | 30 => ⟨S2048x2048, .f32⟩
  | 31 => ⟨S_, .f32⟩
  | 32 => ⟨S2048x2048, .f32⟩
  | 33 => ⟨S2048x2048, .i1⟩
  | 34 => ⟨S2048x2048, .f32⟩
  | 35 => ⟨S_, .f32⟩
  | 36 => ⟨S_, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .f32⟩
  | 43 => ⟨S2048x2048, .i32⟩
  | 44 => ⟨S2048x2048, .i32⟩
  | 45 => ⟨S_, .i32⟩
  | 46 => ⟨S2048x2048, .i32⟩
  | 47 => ⟨S2048x2048, .i32⟩
  | 48 => ⟨S2048x2048, .i1⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S2048x1, .f32⟩
  | 56 => ⟨S1x2048, .f32⟩
  | 57 => ⟨S2048x2048, .f32⟩
  | 58 => ⟨S2048x2048, .f32⟩
  | 59 => ⟨S2048x2048, .f32⟩
  | 60 => ⟨S2048x2048, .f32⟩
  | 61 => ⟨S2048x2048, .i32⟩
  | 62 => ⟨S2048x2048, .f32⟩
  | 63 => ⟨S2048x2048, .i32⟩
  | 64 => ⟨S_, .i32⟩
  | 65 => ⟨S2048x2048, .i32⟩
  | 66 => ⟨S2048x2048, .i1⟩
  | 67 => ⟨S_, .i32⟩
  | 68 => ⟨S2048x2048, .i32⟩
  | 69 => ⟨S2048x2048, .i32⟩
  | 70 => ⟨S2048x2048, .i32⟩
  | 71 => ⟨S2048x2048x1, .i32⟩
  | 72 => ⟨S1, .i32⟩
  | 73 => ⟨S_, .i32⟩
  | 74 => ⟨S2048x2048x1, .i32⟩
  | 75 => ⟨S2048x2048x1, .i1⟩
  | 76 => ⟨S1x1x1, .i32⟩
  | 77 => ⟨S2048x2048x1, .i32⟩
  | 78 => ⟨S2048x2048x1, .i1⟩
  | 79 => ⟨S2048x2048x1, .i1⟩
  | 80 => ⟨S_, .i1⟩
  | 81 => ⟨S2048x2048, .i1⟩
  | 82 => ⟨S2048x2048, .f32⟩
  | 83 => ⟨S_, .f32⟩
  | 84 => ⟨S2048x2048, .f32⟩
  | 85 => ⟨S2048x2048, .f32⟩
  | 86 => ⟨S_, .i32⟩
  | 87 => ⟨S2048x2048, .i32⟩
  | 88 => ⟨S2048x2048, .i1⟩
  | 89 => ⟨S_, .i32⟩
  | 90 => ⟨S2048x2048, .i32⟩
  | 91 => ⟨S2048x2048, .i32⟩
  | 92 => ⟨S2048x2048, .i32⟩
  | 93 => ⟨S2048x2048x1, .i32⟩
  | 94 => ⟨S1, .i32⟩
  | 95 => ⟨S_, .i32⟩
  | 96 => ⟨S2048x2048x1, .i32⟩
  | 97 => ⟨S2048x2048x1, .i1⟩
  | 98 => ⟨S1x1x1, .i32⟩
  | 99 => ⟨S2048x2048x1, .i32⟩
  | 100 => ⟨S2048x2048x1, .i1⟩
  | 101 => ⟨S2048x2048x1, .i1⟩
  | 102 => ⟨S_, .i1⟩
  | 103 => ⟨S2048x2048, .i1⟩
  | 104 => ⟨S2048x2048, .f32⟩
  | 105 => ⟨S_, .f32⟩
  | 106 => ⟨S2048x2048, .f32⟩
  | 107 => ⟨S2048x2048, .f32⟩
  | 108 => ⟨S2048x2048, .f32⟩
  | 109 => ⟨S_, .f32⟩
  | 110 => ⟨S_, .f32⟩
  | 111 => ⟨S2048x2048, .f32⟩
  | 112 => ⟨S2048x2048, .f32⟩
  | 113 => ⟨S_, .f32⟩
  | 114 => ⟨S2048x1, .f32⟩
  | 115 => ⟨S2048x2049, .f32⟩
  | 116 => ⟨S2048x1x2048, .f32⟩
  | 117 => ⟨S2048x2048x1, .f32⟩
  | 118 => ⟨S2048x2048x2048, .f32⟩
  | 119 => ⟨S2048x2048x2048, .f32⟩
  | 120 => ⟨S2048x2048x2048, .i1⟩
  | 121 => ⟨S2048x2048x2048, .i32⟩
  | 122 => ⟨S_, .i32⟩
  | 123 => ⟨S2048x2048, .i32⟩
  | 124 => ⟨S_, .i32⟩
  | 125 => ⟨S2048x2048, .i32⟩
  | 126 => ⟨S2048x2048, .i1⟩
  | 127 => ⟨S_, .i32⟩
  | _ => ⟨S1024x2x512, .f32⟩

abbrev hbmTy0_1 (i : Nat) : BufTy := match i % 128 with
  | 0 => ⟨S2048x2048, .i32⟩
  | 1 => ⟨S2048x2048, .i32⟩
  | 2 => ⟨S2048x2048, .i32⟩
  | 3 => ⟨S2048x2048x1, .i32⟩
  | 4 => ⟨S1, .i32⟩
  | 5 => ⟨S_, .i32⟩
  | 6 => ⟨S2048x2048x1, .i32⟩
  | 7 => ⟨S2048x2048x1, .i1⟩
  | 8 => ⟨S1x1x1, .i32⟩
  | 9 => ⟨S2048x2048x1, .i32⟩
  | 10 => ⟨S2048x2048x1, .i1⟩
  | 11 => ⟨S2048x2048x1, .i1⟩
  | 12 => ⟨S_, .i1⟩
  | 13 => ⟨S2048x2048, .i1⟩
  | 14 => ⟨S2048x2048, .f32⟩
  | 15 => ⟨S_, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S2048x2048, .f32⟩
  | 27 => ⟨S2048x2048, .f32⟩
  | 28 => ⟨S2048x2048, .f32⟩
  | 29 => ⟨S_, .f32⟩
  | 30 => ⟨S2048, .f32⟩
  | 31 => ⟨S_, .f32⟩
  | 32 => ⟨S2048, .f32⟩
  | 33 => ⟨S2048, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | _ => ⟨S1024x2x512, .f32⟩

abbrev hbmTy (i : Nat) : BufTy := match i / 128 with
  | 0 => hbmTy0_0 i
  | 1 => hbmTy0_1 i
  | _ => ⟨S1024x2x512, .f32⟩

abbrev bufTy : (tb : Table) → Fin (tcTables nBuf tb) → BufTy
  | .hbm, ⟨i, _⟩ => hbmTy i
  | _, _ => ⟨S1024x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call2_v0 : Ref sig .tc := ⟨.hbm, 61, rfl⟩
abbrev main_call2_v1_0 : Ref sig .tc := ⟨.hbm, 62, rfl⟩
abbrev main_v45 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v46 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_cst : Ref sig .tc := ⟨.hbm, 105, rfl⟩
abbrev main_call4_v14 : Ref sig .tc := ⟨.hbm, 106, rfl⟩
abbrev main_v47 : Ref sig .tc := ⟨.hbm, 107, rfl⟩
abbrev main_v48 : Ref sig .tc := ⟨.hbm, 108, rfl⟩
abbrev main_call6_call0_cst : Ref sig .tc := ⟨.hbm, 109, rfl⟩
abbrev main_call6_call0_v0 : Ref sig .tc := ⟨.hbm, 110, rfl⟩
abbrev main_v49 : Ref sig .tc := ⟨.hbm, 111, rfl⟩
abbrev main_v50 : Ref sig .tc := ⟨.hbm, 112, rfl⟩
abbrev main_cst_8 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_c_9 : Ref sig .tc := ⟨.hbm, 122, rfl⟩
abbrev main_v59 : Ref sig .tc := ⟨.hbm, 123, rfl⟩
abbrev main_call8_c : Ref sig .tc := ⟨.hbm, 124, rfl⟩
abbrev main_call8_v0 : Ref sig .tc := ⟨.hbm, 125, rfl⟩
abbrev main_call8_v1 : Ref sig .tc := ⟨.hbm, 126, rfl⟩
abbrev main_call8_c_0 : Ref sig .tc := ⟨.hbm, 127, rfl⟩
abbrev main_call8_v2 : Ref sig .tc := ⟨.hbm, 128, rfl⟩
abbrev main_call8_v3 : Ref sig .tc := ⟨.hbm, 129, rfl⟩
abbrev main_call8_v4 : Ref sig .tc := ⟨.hbm, 130, rfl⟩
abbrev main_call8_v5 : Ref sig .tc := ⟨.hbm, 131, rfl⟩
abbrev main_call8_c_1 : Ref sig .tc := ⟨.hbm, 132, rfl⟩
abbrev main_call8_c_2 : Ref sig .tc := ⟨.hbm, 133, rfl⟩
abbrev main_call8_v6 : Ref sig .tc := ⟨.hbm, 134, rfl⟩
abbrev main_call8_v7 : Ref sig .tc := ⟨.hbm, 135, rfl⟩
abbrev main_call8_v8 : Ref sig .tc := ⟨.hbm, 136, rfl⟩
abbrev main_call8_v9 : Ref sig .tc := ⟨.hbm, 137, rfl⟩
abbrev main_call8_v10 : Ref sig .tc := ⟨.hbm, 138, rfl⟩
abbrev main_call8_v11 : Ref sig .tc := ⟨.hbm, 139, rfl⟩
abbrev main_call8_c_3 : Ref sig .tc := ⟨.hbm, 140, rfl⟩
abbrev main_call8_v12 : Ref sig .tc := ⟨.hbm, 141, rfl⟩
abbrev main_call8_v13 : Ref sig .tc := ⟨.hbm, 142, rfl⟩
abbrev main_call8_cst : Ref sig .tc := ⟨.hbm, 143, rfl⟩
abbrev main_call8_v14 : Ref sig .tc := ⟨.hbm, 144, rfl⟩
abbrev main_v60 : Ref sig .tc := ⟨.hbm, 145, rfl⟩
abbrev main_cst_10 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_11 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_cst_12 : Ref sig .tc := ⟨.hbm, 157, rfl⟩
abbrev main_v70 : Ref sig .tc := ⟨.hbm, 158, rfl⟩
abbrev main_cst_13 : Ref sig .tc := ⟨.hbm, 159, rfl⟩
abbrev main_v71 : Ref sig .tc := ⟨.hbm, 160, rfl⟩
abbrev main_v72 : Ref sig .tc := ⟨.hbm, 161, rfl⟩
abbrev main_cst_14 : Ref sig .tc := ⟨.hbm, 162, rfl⟩
abbrev main_v73 : Ref sig .tc := ⟨.hbm, 163, rfl⟩
abbrev main_cst_15 : Ref sig .tc := ⟨.hbm, 164, rfl⟩
abbrev main_v74 : Ref sig .tc := ⟨.hbm, 165, rfl⟩
abbrev main_cst_16 : Ref sig .tc := ⟨.hbm, 166, rfl⟩
abbrev main_v75 : Ref sig .tc := ⟨.hbm, 167, rfl⟩

abbrev nD : Nat := 1
abbrev τ : Topo := Topo.v7x

variable {F : FTy → Type} [FloatOps F]
-- ==== Proof.KernelIdealHand.Trip.lean ====
/- One trip of the kernel's counted loop as a plain function: sixteen column blocks, each the block of the carried sums
   with sixteen masked slices of the rotated weights added to it. -/
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- Column block `b` of the sixteen lies inside the 2048 columns. -/
theorem slices_block (b : Fin 16) : S128x2048.Slices ![0, 128 * b.val] S128x128 :=
  ⟨rfl, fun a => match a with
    | ⟨0, _⟩ => (by decide : 0 + 128 ≤ 128)
    | ⟨1, _⟩ => (by have := b.isLt; omega : 128 * b.val + 128 ≤ 2048)⟩

/-- Column block `b` of a 128 × 2048 array. -/
def block (x : FVec F S128x2048 .f32) (b : Fin 16) : FVec F S128x128 .f32 :=
  extractStridedSlice S128x128 ![0, 128 * b.val] x (slices_block b)

/-- One masked slice added to a block of sums: the weights of block `b` wherever the distance of block `b` is at least
    the threshold. -/
def addMasked (d w : FVec F S128x2048 .f32) (th s : FVec F S128x128 .f32) (b : Fin 16) : FVec F S128x128 .f32 :=
  addf s (select (cmpf .oge (block d b) th) (block w b) (broadcast S128x128 (Scalar.ofBits .f32 0x00000000#32)))

/-- The sixteen masked slices added to column block `c` of the carried sums, beginning with block `c` itself and going round. -/
def column (d w th acc : FVec F S128x2048 .f32) (c : Fin 16) : FVec F S128x128 .f32 :=
  ([c + 0, c + 1, c + 2, c + 3, c + 4, c + 5, c + 6, c + 7, c + 8, c + 9, c + 10, c + 11, c + 12, c + 13, c + 14, c + 15] : List (Fin 16)).foldl
    (addMasked d w (block th c)) (block acc c)

/-- The sixteen column blocks side by side. -/
def columns (f : Fin 16 → FVec F S128x128 .f32) : FVec F S128x2048 .f32 :=
  k0_pay3 (f 0) (f 1) (f 2) (f 3) (f 4) (f 5) (f 6) (f 7) (f 8) (f 9) (f 10) (f 11) (f 12) (f 13) (f 14) (f 15)

/-- One trip: the distances and the weights rotated by the trip's number, masked and added to every column block. -/
def trip (labr : FVec F S1x2048 .f32) (labc : FVec F S128x1 .f32) (w th : FVec F S128x2048 .f32)
    (k : Fin k0_t1_loop.trips) (acc : FVec F S128x2048 .f32) : FVec F S128x2048 .f32 :=
  columns (column (k0_pay5 labr labc 0#32 1#32 k) (k0_pay6 w 0#32 1#32 k) th acc)

set_option maxHeartbeats 4000000 in
/-- The loop's region does nothing but return the trip's value. -/
theorem body_eq (i : grid0.Coords) (arg1 : Memref sig .tc .vmem S128x512 .f32) (harg1 : arg1.IsWhole)
    (arg2 : Memref sig .tc .vmem S2048x512 .f32) (harg2 : arg2.IsWhole) (arg3 : Memref sig .tc .vmem S1x2048 .f32) (harg3 : arg3.IsWhole)
    (arg4 : Memref sig .tc .vmem S128x1 .f32) (harg4 : arg4.IsWhole) (arg5 : Memref sig .tc .vmem S128x1 .f32) (harg5 : arg5.IsWhole)
    (labr : FVec F S1x2048 .f32) (labc : FVec F S128x1 .f32) (w th : FVec F S128x2048 .f32)
    (k : Fin k0_t1_loop.trips) (acc : FVec F S128x2048 .f32) :
    k0_t1_body i arg1 harg1 arg2 harg2 arg3 harg3 arg4 harg4 arg5 harg5 labr labc w th k acc = .ret (trip labr labc w th k acc) := by
  rfl

end Cert.KernelIdeal.Hand

end
-- ==== Proof.KernelIdealHand.Body.lean ====
/- The kernel's body run once, on any staging memrefs: it reads its four input blocks, folds the counted loop, and leaves
   one 128 × 1 block of row sums. -/
module

public import proofs.«01_k».proof.Proof.KernelIdealHand.Trip
public import proofs.«01_k».proof.Proof.Gen.KernelIdeal.Frame
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop leaves: the masked sums over all 128 trips, begun at zero. -/
def sums (labr : FVec F S1x2048 .f32) (labc : FVec F S128x1 .f32) (w th : FVec F S128x2048 .f32) : FVec F S128x2048 .f32 :=
  Scf.fold (trip labr labc w th) k0_pay1

/-- The block the body stores, as a function of the grid point and the four input blocks. -/
def outBlock (i : grid0.Coords) (x : Vec F S128x512 .f32) (xf : Vec F S2048x512 .f32) (lr : Vec F S1x2048 .f32)
    (lc : Vec F S128x1 .f32) : Vec F S128x1 .f32 :=
  k0_pay4 (k0_pay121 i) (k0_pay125 i x xf) (sums (k0_pay119 lr) (k0_pay120 lc) (k0_pay123 i x xf) (k0_pay124 lr lc))

/-- The loop's region as a function of the trip and the carried sums. -/
theorem body_fun (i : grid0.Coords) (arg1 : Memref sig .tc .vmem S128x512 .f32) (harg1 : arg1.IsWhole)
    (arg2 : Memref sig .tc .vmem S2048x512 .f32) (harg2 : arg2.IsWhole) (arg3 : Memref sig .tc .vmem S1x2048 .f32) (harg3 : arg3.IsWhole)
    (arg4 : Memref sig .tc .vmem S128x1 .f32) (harg4 : arg4.IsWhole) (arg5 : Memref sig .tc .vmem S128x1 .f32) (harg5 : arg5.IsWhole)
    (labr : FVec F S1x2048 .f32) (labc : FVec F S128x1 .f32) (w th : FVec F S128x2048 .f32) :
    k0_t1_body i arg1 harg1 arg2 harg2 arg3 harg3 arg4 harg4 arg5 harg5 labr labc w th = fun k acc => .ret (trip labr labc w th k acc) :=
  funext fun k => funext fun acc => body_eq i arg1 harg1 arg2 harg2 arg3 harg3 arg4 harg4 arg5 harg5 labr labc w th k acc

/-- The counted loop is the return of its fold. -/
theorem loop_eq (i : grid0.Coords) (arg1 : Memref sig .tc .vmem S128x512 .f32) (harg1 : arg1.IsWhole)
    (arg2 : Memref sig .tc .vmem S2048x512 .f32) (harg2 : arg2.IsWhole) (arg3 : Memref sig .tc .vmem S1x2048 .f32) (harg3 : arg3.IsWhole)
    (arg4 : Memref sig .tc .vmem S128x1 .f32) (harg4 : arg4.IsWhole) (arg5 : Memref sig .tc .vmem S128x1 .f32) (harg5 : arg5.IsWhole)
    (labr : FVec F S1x2048 .f32) (labc : FVec F S128x1 .f32) (w th : FVec F S128x2048 .f32) :
    Scf.Loop.for k0_t1_loop k0_t1_ok (k0_pay1 (F := F)) (k0_t1_body i arg1 harg1 arg2 harg2 arg3 harg3 arg4 harg4 arg5 harg5 labr labc w th)
      = .ret (sums labr labc w th) :=
  Scf.for_pure k0_t1_loop.lb k0_t1_loop.ub k0_t1_loop.st k0_t1_ok (k0_pay1 (F := F)) _ (trip labr labc w th)
    (fun k acc => body_eq i arg1 harg1 arg2 harg2 arg3 harg3 arg4 harg4 arg5 harg5 labr labc w th k acc)

/-- A load of a whole block reads what the block's view reads. -/
theorem readAt_all {sp : Space} {S : Shape} {e : EltTy} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- A store of a whole block is what the block's view then reads. -/
theorem read_writes_all {sp : Space} {S : Shape} {e : EltTy} (v : View sig .tc sp S e) {off : Fin S.rank → Nat} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h; exact View.read_writes_whole v f w

/-- Two zero offsets. -/
theorem zeros : (![0, 0] : Fin 2 → Nat) = fun _ => 0 := by funext a; fin_cases a <;> rfl

/-- The body, its four input blocks at contents that read as `x`, `xf`, `lr`, `lc`, runs to the output block at
    `outBlock` of them, everything else as it was. -/
theorem kernelRun (c : Dev nD) (i : grid0.Coords) (arg1 : Memref sig .tc .vmem S128x512 .f32) (harg1 : arg1.IsWhole)
    (arg2 : Memref sig .tc .vmem S2048x512 .f32) (harg2 : arg2.IsWhole) (arg3 : Memref sig .tc .vmem S1x2048 .f32) (harg3 : arg3.IsWhole)
    (arg4 : Memref sig .tc .vmem S128x1 .f32) (harg4 : arg4.IsWhole) (arg5 : Memref sig .tc .vmem S128x1 .f32) (harg5 : arg5.IsWhole)
    (x : Vec F S128x512 .f32) (xf : Vec F S2048x512 .f32) (lr : Vec F S1x2048 .f32) (lc : Vec F S128x1 .f32)
    (W : Waits sig Unit) (K : PUnit → sProp 𝕄) :
    iprop(owns (c : Thread nD τ) arg1 fullShare x ∗ owns (c : Thread nD τ) arg2 fullShare xf ∗ owns (c : Thread nD τ) arg3 fullShare lr
        ∗ owns (c : Thread nD τ) arg4 fullShare lc ∗ (∃ d, owns (c : Thread nD τ) arg5 fullShare d) ∗ owes (c : Thread nD τ) 0 W
        ∗ (iprop(owns (c : Thread nD τ) arg1 fullShare x ∗ owns (c : Thread nD τ) arg2 fullShare xf ∗ owns (c : Thread nD τ) arg3 fullShare lr
            ∗ owns (c : Thread nD τ) arg4 fullShare lc ∗ owns (c : Thread nD τ) arg5 fullShare (outBlock i x xf lr lc)
            ∗ (∃ W', owes (c : Thread nD τ) 0 W')) -∗ K ⟨⟩))
      ⊢ wp frame (wpE (defs₀ (F := F)) Variants.none c none) Set.univ
          (cc0__row_kernel i arg1 harg1 arg2 harg2 arg3 harg3 arg4 harg4 arg5 harg5) K := by
  simp only [cc0__row_kernel_eq_skeleton]; unfold cc0__row_kernel_skel
  simp only [k0_part32_eq_skeleton]; unfold k0_part32_skel
  simp only [loop_eq]
  unfold owns
  iintro ⟨⟨%f1, %h1, H1⟩, ⟨%f2, %h2, H2⟩, ⟨%f3, %h3, H3⟩, ⟨%f4, %h4, H4⟩, ⟨%d5, %f5, -, H5⟩, HW, Hk⟩
  subst h1 h2 h3 h4
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; · iexact H5
    ipureintro
    dsimp only
    refine (read_writes_all arg5.view (S := S128x1) zeros inb_S128x1_S128x1_0_0 f5 _).trans ?_
    rw [readAt_all arg1.view (S := S128x512) zeros inb_S128x512_S128x512_0_0 f1,
      readAt_all arg2.view (S := S2048x512) zeros inb_S2048x512_S2048x512_0_0 f2,
      readAt_all arg3.view (S := S1x2048) zeros inb_S1x2048_S1x2048_0_0 f3,
      readAt_all arg4.view (S := S128x1) zeros inb_S128x1_S128x1_0_0 f4]
    rfl
  iexists _; iexact HW

end Cert.KernelIdeal.Hand

end
-- ==== Proof.KernelIdealHand.Run.lean ====
/- The kernel's run: the pipeline's proof data, the body obligation at every grid point, and the launch with the host
   operations before and after the region. -/
module

public import proofs.«01_k».proof.Proof.KernelIdealHand.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`: `outBlock` of the point's four input blocks. -/
def outAt (c : Dev nD) (t : Fin cfg0.N) : Vec F S128x1 .f32 :=
  outBlock (grid0.coords t) (iblk m c 0 t) (iblk m c 1 t) (iblk m c 2 t) (iblk m c 3 t)

/-- The pipeline's proof data on core `c`: the arrays as the region finds them; after the body every input buffer its
    block, the output buffer `outAt`; nothing owed; the shares the windows on one array deal among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it must leave. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point: `kernelRun` on the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3, after_4]
  simp only [before_0, before_1, before_2, before_3]
  unfold Dat.owesAt Pipeline.owesWithin
  rw [show (dats m 0 c).owed t.castSucc = 0 from rfl, show (dats m 0 c).owed t.succ = 0 from rfl]
  unfold outAt
  iintro ⟨HΦ, ⟨%W, -, HW⟩, ⟨%d0, H0⟩, ⟨%d1, H1⟩, ⟨%d2, H2⟩, ⟨%d3, H3⟩, ⟨%d4, H4⟩⟩
  iapply (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (iblk m c 0 t) (iblk m c 1 t) (iblk m c 2 t) (iblk m c 3 t) W _)
  isplitl [H0]; · iexact H0
  isplitl [H1]; · iexact H1
  isplitl [H2]; · iexact H2
  isplitl [H3]; · iexact H3
  isplitl [H4]; · iexists _; iexact H4
  isplitl [HW]; · iexact HW
  iintro ⟨H0, H1, H2, H3, H4, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- The run: every array ends at what the pipeline computes, every other buffer at what the host operations after the
    region leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The argument arrays end as launched and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)
    (run_main m ρ)

/-- The result buffer ends at what the host operations after the region leave there, the arguments as launched. -/
theorem result_main : θ_run defs (onTc (τ := τ) (main (F := F))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h.1 c).2 main_v10 (Pipeline.mem_restRefs_of main_v10 (by decide) (by decide)),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩)
    (run_main m ρ)

end Cert.KernelIdeal.Hand

end
-- ==== Proof.Math.Cover.lean ====
/- Sums taken by turning a row round: 128 turns of sixteen places, 128 apart, meet every place once. -/
module

public import Mathlib.Data.EReal.Basic
public import Mathlib.Algebra.BigOperators.Fin
public import Mathlib.Data.Fintype.BigOperators

@[expose] public section

namespace Cert.Contrast

/-- Place `j` of a row of 2048 turned by `k`. -/
def turn (k j : Nat) : Fin 2048 := ⟨(j + k) % 2048, Nat.mod_lt _ (by norm_num)⟩

/-- Over 128 turns, the places `l, 128 + l, …` of the turned rows are all the places of the row, once each. -/
theorem sum_turns (l : Nat) (g : Fin 2048 → EReal) :
    (∑ k : Fin 128, ∑ b : Fin 16, g (turn k.val (128 * b.val + l))) = ∑ m, g m := by
  rw [← Fintype.sum_prod_type' (fun (k : Fin 128) (b : Fin 16) => g (turn k.val (128 * b.val + l)))]
  have hinj : Function.Injective (fun p : Fin 128 × Fin 16 => turn p.1.val (128 * p.2.val + l)) := by
    rintro ⟨k, b⟩ ⟨k', b'⟩ h
    have h' : (128 * b.val + l + k.val) % 2048 = (128 * b'.val + l + k'.val) % 2048 := congrArg Fin.val h
    have := k.isLt; have := k'.isLt; have := b.isLt; have := b'.isLt
    have hk : k.val = k'.val := by omega
    have hb : b.val = b'.val := by omega
    exact Prod.ext (Fin.ext hk) (Fin.ext hb)
  have hbij : Function.Bijective (fun p : Fin 128 × Fin 16 => turn p.1.val (128 * p.2.val + l)) :=
    (Fintype.bijective_iff_injective_and_card _).2 ⟨hinj, by simp⟩
  exact (Equiv.ofBijective _ hbij).sum_comp g

/-- Sixteen blocks beginning with block `c` and going round are all the blocks. -/
theorem sum_round (c : Fin 16) (f : Fin 16 → EReal) :
    (([c + 0, c + 1, c + 2, c + 3, c + 4, c + 5, c + 6, c + 7, c + 8, c + 9, c + 10, c + 11, c + 12, c + 13, c + 14, c + 15] : List (Fin 16)).map f).sum
      = ∑ b, f b := by
  have hinj : Function.Injective (fun b : Fin 16 => c + b) := by
    intro a b h
    have h' : (c.val + a.val) % 16 = (c.val + b.val) % 16 := by
      rw [← Fin.val_add, ← Fin.val_add]; exact congrArg Fin.val h
    have := a.isLt; have := b.isLt
    exact Fin.ext (by omega)
  rw [← Equiv.sum_comp (Equiv.ofBijective _ (Finite.injective_iff_bijective.1 hinj)) f, Fin.sum_univ_def]
  rfl

/-- A left fold of additions is its start plus the sum of the terms. -/
theorem foldl_add {ι : Type} (l : List ι) (f : ι → EReal) (v : EReal) :
    l.foldl (fun r a => r + f a) v = v + (l.map f).sum := by
  induction l generalizing v with
  | nil => simp
  | cons a l ih => rw [List.foldl_cons, ih, List.map_cons, List.sum_cons, add_assoc]

end Cert.Contrast
-- ==== Proof.KernelIdealHand.Loop.lean ====
/- What the kernel's counted loop leaves, entry by entry: each of the 128 trips adds, from sixteen places of the turned
   row, the weights whose distance is at least the entry's, so the loop adds them from every place once. -/
module

public import proofs.«01_k».proof.Proof.KernelIdealHand.Body
public import proofs.«01_k».proof.Proof.Math.Cover
public import Idealize.ShloMosaic.PureOps.Ideal
public import Idealize.ShloMosaic.Lib.Pointwise

@[expose] public section

set_option maxRecDepth 16384

noncomputable section

namespace Cert.KernelIdeal.Hand

open Cert.KernelIdeal Cert.KernelIdeal.Gen Cert.Contrast
open Idealize.ShloMosaic Idealize.ShloMosaic.TcCoe

/-- The loop runs 128 trips. -/
theorem trips_eq : k0_t1_loop.trips = 128 := by decide

/-- The rotation by 2048 less the trip's number turns the row by the trip's number. -/
theorem rotation (k : Nat) (hk : k < 128) : (Scalar.subi 2048#32 (Scf.iv 0#32 1#32 k)).toNat = 2048 - k := by
  show (2048#32 - (0#32 + BitVec.ofNat 32 k * 1#32)).toNat = 2048 - k
  rw [BitVec.mul_one, BitVec.zero_add, BitVec.toNat_sub, BitVec.toNat_ofNat, BitVec.toNat_ofNat]
  omega

/-- So the rotated row's place `j` is the turned row's. -/
theorem turn_eq (k j : Nat) (hk : k < 128) :
    (⟨(j + 2048 - (Scalar.subi 2048#32 (Scf.iv 0#32 1#32 k)).toNat % 2048) % 2048, Nat.mod_lt _ (by norm_num)⟩ : Fin 2048) = turn k j := by
  rw [rotation k hk]
  refine Fin.ext ?_
  show (j + 2048 - (2048 - k) % 2048) % 2048 = (j + k) % 2048
  omega

/-- The distances to the turned labels. -/
theorem pay5_apply (labr : FVec Ideal S1x2048 .f32) (labc : FVec Ideal S128x1 .f32) (k : Fin k0_t1_loop.trips) (r : Fin 128) (j : Fin 2048) :
    k0_pay5 labr labc 0#32 1#32 k (ix2 r j)
      = FloatOps.absf (F := Ideal) (φ := .f32) ((labc (ix2 r 0) : EReal) - labr (ix2 0 (turn k.val j.val))) := by
  have hk : k.val < 128 := trips_eq ▸ k.isLt
  have e : (⟨(j.val + 2048 - (Scalar.subi 2048#32 (Scf.iv 0#32 1#32 k.val)).toNat % 2048) % 2048, Nat.mod_lt _ (by norm_num)⟩ : Fin 2048)
      = turn k.val j.val := turn_eq k.val j.val hk
  pointwise [k0_pay5]
  rw [e]

/-- The turned weights. -/
theorem pay6_apply (w : FVec Ideal S128x2048 .f32) (k : Fin k0_t1_loop.trips) (r : Fin 128) (j : Fin 2048) :
    k0_pay6 w 0#32 1#32 k (ix2 r j) = w (ix2 r (turn k.val j.val)) := by
  have hk : k.val < 128 := trips_eq ▸ k.isLt
  have e : (⟨(j.val + 2048 - (Scalar.subi 2048#32 (Scf.iv 0#32 1#32 k.val)).toNat % 2048) % 2048, Nat.mod_lt _ (by norm_num)⟩ : Fin 2048)
      = turn k.val j.val := turn_eq k.val j.val hk
  pointwise [k0_pay6]
  rw [e]

/-- Lane `l` of column block `b`. -/
def lane (b : Fin 16) (l : Fin 128) : Fin 2048 := ⟨128 * b.val + l.val, by have := b.isLt; have := l.isLt; omega⟩

/-- An entry of a column block. -/
theorem block_apply (x : FVec Ideal S128x2048 .f32) (b : Fin 16) (r l : Fin 128) : block x b (ix2 r l) = x (ix2 r (lane b l)) := by
  refine congrArg x (funext fun a => Fin.ext ?_)
  match a with
  | ⟨0, _⟩ => exact Nat.zero_add _
  | ⟨1, _⟩ => rfl

/-- A masked slice added at an entry. -/
theorem addMasked_apply (d w : FVec Ideal S128x2048 .f32) (th s : FVec Ideal S128x128 .f32) (b : Fin 16) (r l : Fin 128) :
    addMasked d w th s b (ix2 r l)
      = (s (ix2 r l) + if (th (ix2 r l) : EReal) ≤ d (ix2 r (lane b l)) then w (ix2 r (lane b l)) else 0 : EReal) := by
  unfold addMasked
  pointwise
  rw [block_apply, block_apply]

/-- Masked slices added one after another at an entry. -/
theorem foldl_addMasked_apply (d w : FVec Ideal S128x2048 .f32) (th : FVec Ideal S128x128 .f32) (r l : Fin 128) (bs : List (Fin 16))
    (s : FVec Ideal S128x128 .f32) :
    bs.foldl (addMasked d w th) s (ix2 r l)
      = bs.foldl (fun (v : EReal) b => v + if (th (ix2 r l) : EReal) ≤ d (ix2 r (lane b l)) then w (ix2 r (lane b l)) else 0) (s (ix2 r l)) := by
  induction bs generalizing s with
  | nil => rfl
  | cons b bs ih => rw [List.foldl_cons, List.foldl_cons, ih, addMasked_apply]

/-- An entry of a column block after its sixteen masked slices. -/
theorem column_apply (d w th acc : FVec Ideal S128x2048 .f32) (c : Fin 16) (r l : Fin 128) :
    column d w th acc c (ix2 r l)
      = (acc (ix2 r (lane c l)) + ∑ b : Fin 16, if (th (ix2 r (lane c l)) : EReal) ≤ d (ix2 r (lane b l)) then w (ix2 r (lane b l)) else 0 : EReal) := by
  unfold column
  rw [foldl_addMasked_apply, foldl_add, sum_round, block_apply, block_apply]

/-- Sixteen blocks of 128 columns fill 2048 columns. -/
theorem concatenates_columns (f : Fin 16 → FVec Ideal S128x128 .f32) : Shape.Concatenates ((List.ofFn fun n : Fin 16 => (⟨S128x128, f n⟩ : (s : Shape) × (s.Idx → Ideal .f32))).map (·.1)) S128x2048 1 := by
  rw [List.map_ofFn]
  exact (by decide : Shape.Concatenates (List.ofFn fun _ : Fin 16 => S128x128) S128x2048 1)

/-- An entry of the blocks side by side. -/
theorem columns_apply (f : Fin 16 → FVec Ideal S128x128 .f32) (c : Fin 16) (r l : Fin 128) :
    columns f (ix2 r (lane c l)) = f c (ix2 r l) := by
  have hl := l.isLt
  refine (concatenate_ofFn_apply (t := S128x2048) (s₁ := S128x128) 1 f (concatenates_columns f) rfl 128 rfl (ix2 r (lane c l)) c
    ?_ (ix2 r l) ?_ fun b hb => ?_)
  · show (128 * c.val + l.val) / 128 = c.val
    omega
  · show l.val = (128 * c.val + l.val) % 128
    omega
  · match b with
    | ⟨0, _⟩ => rfl
    | ⟨1, _⟩ => exact absurd rfl hb

/-- The masked sum that one trip adds at an entry. -/
theorem trip_apply (labr : FVec Ideal S1x2048 .f32) (labc : FVec Ideal S128x1 .f32) (w th : FVec Ideal S128x2048 .f32)
    (k : Fin k0_t1_loop.trips) (acc : FVec Ideal S128x2048 .f32) (c : Fin 16) (r l : Fin 128) :
    trip labr labc w th k acc (ix2 r (lane c l))
      = (acc (ix2 r (lane c l)) + ∑ b : Fin 16, if (th (ix2 r (lane c l)) : EReal) ≤ FloatOps.absf (F := Ideal) (φ := .f32) ((labc (ix2 r 0) : EReal) - labr (ix2 0 (turn k.val (128 * b.val + l.val))))
          then w (ix2 r (turn k.val (128 * b.val + l.val))) else 0 : EReal) := by
  unfold trip
  rw [columns_apply, column_apply]
  refine congrArg (fun v : EReal => (acc (ix2 r (lane c l)) : EReal) + v) (Finset.sum_congr rfl fun b _ => ?_)
  rw [pay5_apply, pay6_apply]
  rfl

/-- Trips folded one after another at an entry. -/
theorem foldl_trip_apply (labr : FVec Ideal S1x2048 .f32) (labc : FVec Ideal S128x1 .f32) (w th : FVec Ideal S128x2048 .f32)
    (c : Fin 16) (r l : Fin 128) (ks : List (Fin k0_t1_loop.trips)) (acc : FVec Ideal S128x2048 .f32) :
    ks.foldl (fun acc k => trip labr labc w th k acc) acc (ix2 r (lane c l))
      = ks.foldl (fun (v : EReal) k => v + ∑ b : Fin 16, if (th (ix2 r (lane c l)) : EReal) ≤ FloatOps.absf (F := Ideal) (φ := .f32) ((labc (ix2 r 0) : EReal) - labr (ix2 0 (turn k.val (128 * b.val + l.val))))
          then w (ix2 r (turn k.val (128 * b.val + l.val))) else 0) (acc (ix2 r (lane c l))) := by
  induction ks generalizing acc with
  | nil => rfl
  | cons k ks ih => rw [List.foldl_cons, List.foldl_cons, ih, trip_apply]

/-- A sum over the loop's trips is one over 128 numbers. -/
theorem sum_trips (f : Nat → EReal) : (∑ k : Fin k0_t1_loop.trips, f k.val) = ∑ k : Fin 128, f k.val :=
  Fintype.sum_equiv (finCongr trips_eq) _ _ fun _ => rfl

/-- What the loop leaves at an entry: the weights of all the places whose distance is at least the entry's. -/
theorem sums_apply (labr : FVec Ideal S1x2048 .f32) (labc : FVec Ideal S128x1 .f32) (w th : FVec Ideal S128x2048 .f32)
    (r : Fin 128) (j : Fin 2048) :
    sums labr labc w th (ix2 r j)
      = (∑ m : Fin 2048, if (th (ix2 r j) : EReal) ≤ FloatOps.absf (F := Ideal) (φ := .f32) ((labc (ix2 r 0) : EReal) - labr (ix2 0 m))
          then w (ix2 r m) else 0 : EReal) := by
  have hj := j.isLt
  obtain ⟨c, l, rfl⟩ : ∃ (c : Fin 16) (l : Fin 128), j = lane c l :=
    ⟨⟨j.val / 128, by omega⟩, ⟨j.val % 128, by omega⟩, Fin.ext (by show j.val = 128 * (j.val / 128) + j.val % 128; omega)⟩
  have h0 : k0_pay1 (F := Ideal) (ix2 r (lane c l)) = (0 : EReal) := by
    show Ideal.ofBits .f32 0x00000000#32 = 0
    exact Ideal.ofBits_zero_f32
  unfold sums
  rw [Scf.fold_eq, foldl_trip_apply, foldl_add, h0, zero_add, ← Fin.sum_univ_def]
  rw [sum_trips (fun k => ∑ b : Fin 16, if (th (ix2 r (lane c l)) : EReal) ≤ FloatOps.absf (F := Ideal) (φ := .f32) ((labc (ix2 r 0) : EReal) - labr (ix2 0 (turn k (128 * b.val + l.val))))
          then w (ix2 r (turn k (128 * b.val + l.val))) else 0)]
  exact sum_turns l.val (fun m => if (th (ix2 r (lane c l)) : EReal) ≤ FloatOps.absf (F := Ideal) (φ := .f32) ((labc (ix2 r 0) : EReal) - labr (ix2 0 m))
          then w (ix2 r m) else 0)

end Cert.KernelIdeal.Hand

end
-- ==== Proof.Math.Spec.lean ====
/- The function both programs compute, over rows and columns written as plain numbers: the pairwise logits of the
   features, the label distances, the sums over the samples at least as far away, and the two parts of the loss. -/
module

public import Idealize.ShloMosaic.PureOps.Ideal

@[expose] public section

noncomputable section

namespace Cert.Contrast

open Idealize.ShloMosaic

/-- The squared norm of row `i`. -/
def sq (x : Fin 2048 → Fin 512 → EReal) (i : Fin 2048) : EReal := ∑ k, x i k * x i k

/-- The squared distance of rows `i` and `j`, cut off below at zero. -/
def d2 (x : Fin 2048 → Fin 512 → EReal) (i j : Fin 2048) : EReal :=
  max (sq x i + sq x j - 2 * ∑ k, x i k * x j k) 0

/-- The negated reciprocal of the temperature. -/
def scale : EReal := ((-134217728 / 9395241 : ℝ) : EReal)

/-- The logit of rows `i` and `j`: minus their distance over the temperature. -/
def logit (x : Fin 2048 → Fin 512 → EReal) (i j : Fin 2048) : EReal := Ideal.sqrt (d2 x i j) * scale

/-- The logit, zero on the diagonal. -/
def pos (x : Fin 2048 → Fin 512 → EReal) (i j : Fin 2048) : EReal := if i = j then 0 else logit x i j

/-- The exponentiated logit, zero on the diagonal. -/
def wgt (x : Fin 2048 → Fin 512 → EReal) (i j : Fin 2048) : EReal := if i = j then 0 else Ideal.exp (logit x i j)

/-- The distance of the labels of `i` and `j`. -/
def dis (lab : Fin 2048 → EReal) (i j : Fin 2048) : EReal := FloatOps.absf (F := Ideal) (φ := .f32) (lab i - lab j)

/-- The sum of the weights of the samples whose label is at least as far from `i`'s as `j`'s is. -/
def neg (x : Fin 2048 → Fin 512 → EReal) (lab : Fin 2048 → EReal) (i j : Fin 2048) : EReal :=
  ∑ l, if dis lab i j ≤ dis lab i l then wgt x i l else 0

/-- The logarithm of that sum, zero on the diagonal. -/
def lneg (x : Fin 2048 → Fin 512 → EReal) (lab : Fin 2048 → EReal) (i j : Fin 2048) : EReal :=
  Ideal.log (if i = j then 1 else neg x lab i j)

/-- Row `i`'s sum of logits less its sum of logarithms. -/
def row (x : Fin 2048 → Fin 512 → EReal) (lab : Fin 2048 → EReal) (i : Fin 2048) : EReal :=
  ∑ j, pos x i j - ∑ j, lneg x lab i j

/-- The loss: minus the rows' sum over the number of ordered pairs. -/
def loss (x : Fin 2048 → Fin 512 → EReal) (lab : Fin 2048 → EReal) : EReal :=
  -1 * Ideal.div (∑ i, row x lab i) (4192256 : ℝ)

/-- The same as the mean over rows of the means within them. -/
def lossOfMeans (x : Fin 2048 → Fin 512 → EReal) (lab : Fin 2048 → EReal) : EReal :=
  -1 * Ideal.div (∑ i, Ideal.div (∑ j, (pos x i j - lneg x lab i j)) (2047 : ℝ)) (2048 : ℝ)

end Cert.Contrast

end
-- ==== Proof.Math.Consts.lean ====
/- The values of the float literals. -/
module

public import Idealize.ShloMosaic.PureOps.Ideal

@[expose] public section

namespace Cert.Contrast

open Idealize.ShloMosaic

/-- The literal two. -/
theorem lit_two : Ideal.ofBits .f32 0x40000000#32 = (2 : EReal) := by
  have : Ideal.ofBits .f32 0x40000000#32 = ((2 : ℝ) : EReal) := by simp [Ideal.ofBits, Ideal.ieee, -EReal.coe_mul]; norm_num
  rw [this]; rfl

/-- The literal minus one. -/
theorem lit_neg_one : Ideal.ofBits .f32 0xBF800000#32 = (-1 : EReal) := by
  have : Ideal.ofBits .f32 0xBF800000#32 = ((-1 : ℝ) : EReal) := by simp [Ideal.ofBits, Ideal.ieee, -EReal.coe_mul]; norm_num
  rw [this]; rfl

/-- The literal 4192256, the number of ordered pairs of distinct rows. -/
theorem lit_pairs : Ideal.ofBits .f32 0x4A7FE000#32 = ((4192256 : ℝ) : EReal) := by
  simp [Ideal.ofBits, Ideal.ieee, -EReal.coe_mul]; norm_num

/-- The literal 2047. -/
theorem lit_others : Ideal.ofBits .f32 0x44FFE000#32 = ((2047 : ℝ) : EReal) := by
  simp [Ideal.ofBits, Ideal.ieee, -EReal.coe_mul]; norm_num

/-- The literal 2048. -/
theorem lit_rows : Ideal.ofBits .f32 0x45000000#32 = ((2048 : ℝ) : EReal) := by
  simp [Ideal.ofBits, Ideal.ieee, -EReal.coe_mul]; norm_num

/-- The temperature, 0.07 rounded. -/
theorem lit_temperature : Ideal.ofBits .f32 0x3D8F5C29#32 = ((9395241 / 134217728 : ℝ) : EReal) := by
  simp [Ideal.ofBits, Ideal.ieee, -EReal.coe_mul]; norm_num

end Cert.Contrast
-- ==== Proof.KernelIdealHand.Block.lean ====
/- The block the kernel's body stores, entry by entry: each row's part of the loss. -/
module

public import proofs.«01_k».proof.Proof.KernelIdealHand.Loop
public import proofs.«01_k».proof.Proof.Math.Spec
public import proofs.«01_k».proof.Proof.Math.Consts

@[expose] public section

set_option maxRecDepth 16384

noncomputable section

namespace Cert.KernelIdeal.Hand

open Cert.KernelIdeal Cert.KernelIdeal.Gen Cert.Contrast
open Idealize.ShloMosaic Idealize.ShloMosaic.TcCoe

/-- Row `r` of the block at grid point `i`, among all the rows. -/
def rowAt (i : grid0.Coords) (r : Fin 128) : Fin 2048 :=
  ⟨128 * (i 0).val + r.val, by have : (i 0).val < 16 := (i 0).isLt; have := r.isLt; omega⟩

/-- The mask is off on the diagonal alone. -/
theorem pay121_apply (i : grid0.Coords) (r : Fin 128) (j : Fin 2048) :
    k0_pay121 i (ix2 r j) = if rowAt i r = j then 0#1 else 1#1 := by
  have : (i 0).val < 16 := (i 0).isLt
  have hr := r.isLt
  have hj := j.isLt
  have e : (BitVec.ofNat 32 j.val = BitVec.ofNat 32 r.val + BitVec.ofNat 32 (i 0).val * 128#32) ↔ rowAt i r = j := by
    rw [← BitVec.ofNat_mul, ← BitVec.ofNat_add]
    constructor
    · intro h
      have h' := congrArg BitVec.toNat h
      simp only [BitVec.toNat_ofNat] at h'
      refine Fin.ext ?_
      show 128 * (i 0).val + r.val = j.val
      omega
    · rintro rfl
      congr 1
      show 128 * (i 0).val + r.val = r.val + (i 0).val * 128
      omega
  pointwise [k0_pay121]
  show BitVec.ofBool (BitVec.ofNat 32 j.val != BitVec.ofNat 32 r.val + BitVec.ofNat 32 (i 0).val * 128#32) = _
  by_cases h : rowAt i r = j
  · rw [if_pos h, bne, beq_iff_eq.2 (e.2 h)]
    rfl
  · rw [if_neg h, bne, beq_eq_false_iff_ne.2 (fun h' => h (e.1 h'))]
    rfl

/-- The logits of a block's rows. -/
theorem pay122_apply (X : Fin 2048 → Fin 512 → EReal) (i : grid0.Coords) (x : Vec Ideal S128x512 .f32) (xf : Vec Ideal S2048x512 .f32)
    (hx : ∀ r k, x (ix2 r k) = X (rowAt i r) k) (hxf : ∀ j k, xf (ix2 j k) = X j k) (r : Fin 128) (j : Fin 2048) :
    k0_pay122 x xf (ix2 r j) = logit X (rowAt i r) j := by
  pointwise [k0_pay122]
  simp only [hx, hxf, lit_two]
  rw [IdealRules.named_const.ideal_named_scalar _ _ _ _ rfl]
  rfl

/-- The masked weights of a block's rows. -/
theorem pay123_apply (X : Fin 2048 → Fin 512 → EReal) (i : grid0.Coords) (x : Vec Ideal S128x512 .f32) (xf : Vec Ideal S2048x512 .f32)
    (hx : ∀ r k, x (ix2 r k) = X (rowAt i r) k) (hxf : ∀ j k, xf (ix2 j k) = X j k) (r : Fin 128) (j : Fin 2048) :
    k0_pay123 i x xf (ix2 r j) = wgt X (rowAt i r) j := by
  have e : k0_pay123 i x xf (ix2 r j)
      = Scalar.select (k0_pay121 i (ix2 r j)) (Ideal.exp (k0_pay122 x xf (ix2 r j))) (Ideal.ofBits .f32 0x00000000#32) := rfl
  rw [e, pay121_apply, pay122_apply X i x xf hx hxf, Ideal.ofBits_zero_f32]
  unfold wgt
  by_cases h : rowAt i r = j
  · rw [if_pos h, if_pos h]; exact ValueIdx.select_zero _ _
  · rw [if_neg h, if_neg h]; exact ValueIdx.select_one _ _

/-- The masked logits of a block's rows. -/
theorem pay125_apply (X : Fin 2048 → Fin 512 → EReal) (i : grid0.Coords) (x : Vec Ideal S128x512 .f32) (xf : Vec Ideal S2048x512 .f32)
    (hx : ∀ r k, x (ix2 r k) = X (rowAt i r) k) (hxf : ∀ j k, xf (ix2 j k) = X j k) (r : Fin 128) (j : Fin 2048) :
    k0_pay125 i x xf (ix2 r j) = pos X (rowAt i r) j := by
  have e : k0_pay125 i x xf (ix2 r j)
      = Scalar.select (k0_pay121 i (ix2 r j)) (k0_pay122 x xf (ix2 r j)) (Ideal.ofBits .f32 0x00000000#32) := rfl
  rw [e, pay121_apply, pay122_apply X i x xf hx hxf, Ideal.ofBits_zero_f32]
  unfold pos
  by_cases h : rowAt i r = j
  · rw [if_pos h, if_pos h]; exact ValueIdx.select_zero _ _
  · rw [if_neg h, if_neg h]; exact ValueIdx.select_one _ _

/-- The label distances of a block's rows. -/
theorem pay124_apply (L : Fin 2048 → EReal) (i : grid0.Coords) (lr : Vec Ideal S1x2048 .f32) (lc : Vec Ideal S128x1 .f32)
    (hlr : ∀ j, lr (ix2 0 j) = L j) (hlc : ∀ r, lc (ix2 r 0) = L (rowAt i r)) (r : Fin 128) (j : Fin 2048) :
    k0_pay124 lr lc (ix2 r j) = dis L (rowAt i r) j := by
  pointwise [k0_pay124, k0_pay119, k0_pay120]
  rw [hlr, hlc]
  rfl

/-- The row sums the body stores, from its masked logits `p` and its loop's sums `s`. -/
theorem pay4_apply (i : grid0.Coords) (p s : FVec Ideal S128x2048 .f32) (r : Fin 128) :
    k0_pay4 (k0_pay121 i) p s (ix2 r 0)
      = (∑ j : Fin 2048, p (ix2 r j) - ∑ j : Fin 2048, Ideal.log (if rowAt i r = j then 1 else s (ix2 r j)) : EReal) := by
  pointwise [k0_pay4]
  refine congrArg (fun v : EReal => (∑ j : Fin 2048, p (ix2 r j) : EReal) - v) (Finset.sum_congr rfl fun j _ => congrArg Ideal.log ?_)
  rw [pay121_apply]
  by_cases h : rowAt i r = j
  · rw [if_pos h, if_pos h]; exact ValueIdx.select_zero _ _
  · rw [if_neg h, if_neg h]; exact ValueIdx.select_one _ _

/-- An entry of the block the body stores: its row's part of the loss. -/
theorem outBlock_apply (X : Fin 2048 → Fin 512 → EReal) (L : Fin 2048 → EReal) (i : grid0.Coords) (x : Vec Ideal S128x512 .f32)
    (xf : Vec Ideal S2048x512 .f32) (lr : Vec Ideal S1x2048 .f32) (lc : Vec Ideal S128x1 .f32)
    (hx : ∀ r k, x (ix2 r k) = X (rowAt i r) k) (hxf : ∀ j k, xf (ix2 j k) = X j k)
    (hlr : ∀ j, lr (ix2 0 j) = L j) (hlc : ∀ r, lc (ix2 r 0) = L (rowAt i r)) (r : Fin 128) :
    outBlock i x xf lr lc (ix2 r 0) = row X L (rowAt i r) := by
  have e1 : ∀ j, k0_pay119 lr (ix2 0 j) = L j := fun j => by pointwise [k0_pay119]; exact hlr j
  have e2 : ∀ r, k0_pay120 lc (ix2 r 0) = L (rowAt i r) := fun r => by pointwise [k0_pay120]; exact hlc r
  unfold outBlock
  rw [pay4_apply]
  unfold row lneg neg
  simp only [sums_apply, pay125_apply X i x xf hx hxf, pay123_apply X i x xf hx hxf, pay124_apply L i lr lc hlr hlc, e1, e2]
  rfl

end Cert.KernelIdeal.Hand

end
-- ==== Proof.KernelIdealHand.Value.lean ====
/- The kernel's result: the blocks the windows hand the body read off the arguments, the row sums the region leaves, and
   the mean the host operations after it take, which is the loss of the arguments' features and labels. -/
module

public import proofs.«01_k».proof.Proof.KernelIdealHand.Block
public import proofs.«01_k».proof.Proof.KernelIdealHand.Run
public import Idealize.ShloMosaic.Lib.Pipeline.ValueKit

@[expose] public section

set_option maxRecDepth 16384

noncomputable section

namespace Cert.KernelIdeal.Hand

open Cert.KernelIdeal Cert.KernelIdeal.Gen Cert.Contrast
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The feature rows: the two views of the first argument, stacked. -/
def kfeats (A : Vec Ideal S1024x2x512 .f32) (i : Fin 2048) (k : Fin 512) : EReal :=
  shapeCast S2048x512 (transpose S2x1024x512 [1, 0, 2] A transposes_S1024x2x512_S2x1024x512_1_0_2) shapeCasts_S2x1024x512_S2048x512 (ix2 i k)

/-- The labels: the second argument, twice. -/
def klabels (B : Vec Ideal S1024 .f32) (i : Fin 2048) : EReal :=
  shapeCast S2048 (broadcastInDim S2x1024 ![0, 1] bcast_S1x1024_S2x1024_0_1 (shapeCast S1x1024 B shapeCasts_S1024_S1x1024)) shapeCasts_S2x1024_S2048 (ix1 i)

/-- The region finds the stacked features in the array of windows 0 and 1. -/
theorem entry_v1 (c : Dev nD) (i : Fin 2048) (k : Fin 512) :
    V m c main_v1 (ix2 i k) = kfeats (m ((c.tc : Thread nD τ).loc main_arg0)) i k := by
  rfl

/-- The region finds the labels as a row in the array of window 2. -/
theorem entry_v5 (c : Dev nD) (j : Fin 2048) :
    V m c main_v5 (ix2 0 j) = klabels (m ((c.tc : Thread nD τ).loc main_arg1)) j := by
  have e : V m c main_v5 (ix2 0 j) = shapeCast S1x2048 (shapeCast S2048 (broadcastInDim S2x1024 ![0, 1] bcast_S1x1024_S2x1024_0_1
      (shapeCast S1x1024 (m ((c.tc : Thread nD τ).loc main_arg1)) shapeCasts_S1024_S1x1024)) shapeCasts_S2x1024_S2048)
      shapeCasts_S2048_S1x2048 (ix2 0 j) := rfl
  rw [e]
  unfold klabels
  pointwise

/-- The region finds the labels as a column in the array of window 3. -/
theorem entry_v6 (c : Dev nD) (j : Fin 2048) :
    V m c main_v6 (ix2 j 0) = klabels (m ((c.tc : Thread nD τ).loc main_arg1)) j := by
  have e : V m c main_v6 (ix2 j 0) = shapeCast S2048x1 (shapeCast S2048 (broadcastInDim S2x1024 ![0, 1] bcast_S1x1024_S2x1024_0_1
      (shapeCast S1x1024 (m ((c.tc : Thread nD τ).loc main_arg1)) shapeCasts_S1024_S1x1024)) shapeCasts_S2x1024_S2048)
      shapeCasts_S2048_S2048x1 (ix2 j 0) := rfl
  rw [e]
  unfold klabels
  pointwise

/-- Where each window's block lies at a point. -/
theorem idx : ∀ t : Fin grid0.N, win0_0.index t = ![(grid0.coords t 0).val, 0] ∧ win0_1.index t = ![0, 0]
    ∧ win0_2.index t = ![0, 0] ∧ win0_3.index t = ![(grid0.coords t 0).val, 0] ∧ win0_4.index t = ![(grid0.coords t 0).val, 0] := by
  decide +kernel

/-- Window 0 hands the body the point's 128 feature rows. -/
theorem iblk_0 (c : Dev nD) (t : Fin cfg0.N) (r : Fin 128) (k : Fin 512) :
    iblk m c 0 t (ix2 r k) = V m c main_v1 (ix2 (rowAt (grid0.coords t) r) k) := by
  blk_ext! [iblk, idx t]
  show _ = 128 * (grid0.coords t 0).val + r.val
  omega

/-- Window 1 hands it all the feature rows. -/
theorem iblk_1 (c : Dev nD) (t : Fin cfg0.N) (r : Fin 2048) (k : Fin 512) :
    iblk m c 1 t (ix2 r k) = V m c main_v1 (ix2 r k) := by
  blk_ext! [iblk, idx t]

/-- Window 2 hands it all the labels. -/
theorem iblk_2 (c : Dev nD) (t : Fin cfg0.N) (j : Fin 2048) :
    iblk m c 2 t (ix2 0 j) = V m c main_v5 (ix2 0 j) := by
  blk_ext! [iblk, idx t]

/-- Window 3 hands it the labels of its 128 rows. -/
theorem iblk_3 (c : Dev nD) (t : Fin cfg0.N) (r : Fin 128) :
    iblk m c 3 t (ix2 r 0) = V m c main_v6 (ix2 (rowAt (grid0.coords t) r) 0) := by
  blk_ext! [iblk, idx t]
  show _ = 128 * (grid0.coords t 0).val + r.val
  omega

/-- What the body leaves at a point: its rows' parts of the loss. -/
theorem outAt_apply (c : Dev nD) (t : Fin cfg0.N) (r : Fin 128) :
    outAt m c t (ix2 r 0) = row (kfeats (m ((c.tc : Thread nD τ).loc main_arg0))) (klabels (m ((c.tc : Thread nD τ).loc main_arg1)))
      (rowAt (grid0.coords t) r) := by
  unfold outAt
  exact outBlock_apply _ _ (grid0.coords t) _ _ _ _ (fun r k => (iblk_0 m c t r k).trans (entry_v1 m c _ k))
    (fun j k => (iblk_1 m c t j k).trans (entry_v1 m c j k)) (fun j => (iblk_2 m c t j).trans (entry_v5 m c j))
    (fun r => (iblk_3 m c t r).trans (entry_v6 m c _)) r

/-- The row sums of the loss, as the column the region fills. -/
def rows (c : Dev nD) : Vec Ideal S2048x1 .f32 := fun i =>
  row (kfeats (m ((c.tc : Thread nD τ).loc main_arg0))) (klabels (m ((c.tc : Thread nD τ).loc main_arg1))) ⟨(i 0).val, (i 0).isLt⟩

/-- The array the region leaves: every row's part of the loss. -/
theorem final_v7 (c : Dev nD) : (dats m 0 c).arrAt 4 cfg0.N = rows m c := by
  refine (dats m 0 c).arrAt_eq_of_covers 4 _ (by decide +kernel) fun t hf y => ?_
  blk_simp
  rw [after_4]
  have hy : (y : S128x1.Idx) = ix2 (y 0) 0 := by
    refine (eq_ix2 (y : S128x1.Idx)).trans (congrArg (ix2 (y 0)) ?_)
    exact Subsingleton.elim (α := Fin 1) _ _
  refine Eq.trans ((congrArg (outAt m c t) hy).trans (outAt_apply m c t (y 0))) ?_
  unfold rows
  refine congrArg (row _ _) (Fin.ext ?_)
  blk_simp [idx t]
  show 128 * (grid0.coords t 0).val + (y 0).val = (grid0.coords t 0).val * 128 + (y 0).val
  omega

/-- The loss from its rows, as the host operations after the region take it. -/
theorem tail_apply (X : Fin 2048 → Fin 512 → EReal) (L : Fin 2048 → EReal) (R : Vec Ideal S2048x1 .f32)
    (hR : ∀ i, R (ix2 i 0) = row X L i) (j : S_.Idx) :
    mulf (F := Ideal) (φ := .f32) (constant S_ .f32 0xBF800000#32) (Host.divf (Host.reduceAdd R (constant S_ .f32 0x00000000#32) reducesTo_S2048x1_S_d0_1 h_S_)
      (constant S_ .f32 0x4A7FE000#32)) j = loss X L := by
  pointwise
  have e : (∑ i : Fin 2048, ∑ k : Fin 1, R (ix2 i k) : EReal) = ∑ i, row X L i :=
    Finset.sum_congr rfl fun i _ => (Fin.sum_univ_one _).trans (hR i)
  unfold loss
  rw [e, lit_neg_one, lit_pairs]

/-- The result the host operations after the region leave is the loss. -/
theorem tail_v10 (c : Dev nD) : Pipeline.afterTail₀ cfgs (dats m) 0 (V0 m) [hostOps1] c main_v10
    = fun _ => loss (kfeats (m ((c.tc : Thread nD τ).loc main_arg0))) (klabels (m ((c.tc : Thread nD τ).loc main_arg1))) := by
  have hA : Pipeline.withArrays (cfgs 0).spec c (V0 m c) (fun w => (dats m 0 c).arrAt w (cfgs 0).N) (Proc.devRef .tc main_v7) = rows m c :=
    (Pipeline.withArrays_arr_shared spec0 c (V0 m c) _
      (Pipeline.Dat.arrAt_sharedIn (dats m 0 c) sharedIn0 (V0 m c) (A_eq m c) cfg0.N) 4).trans (final_v7 m c)
  unfold Pipeline.afterTail₀
  generalize hW : Pipeline.withArrays (cfgs 0).spec c (V0 m c) (fun w => (dats m 0 c).arrAt w (cfgs 0).N) = W at hA
  have e : StableHlo.after (List.flatten [hostOps1]) W (Proc.devRef .tc main_v10)
      = mulf (F := Ideal) (φ := .f32) (constant S_ .f32 0xBF800000#32) (Host.divf (Host.reduceAdd (W (Proc.devRef .tc main_v7) : Vec Ideal S2048x1 .f32)
        (constant S_ .f32 0x00000000#32) reducesTo_S2048x1_S_d0_1 h_S_) (constant S_ .f32 0x4A7FE000#32)) := rfl
  refine e.trans (funext fun j => tail_apply _ _ _ (fun i => ?_) j)
  rw [hA]
  rfl

/-- The kernel's run: the result is the loss of the arguments' features and labels, the arguments end as launched. -/
theorem run_value : θ_run defs (onTc (τ := τ) (main (F := Ideal))) ⟨m, fun _ => 0, ρ⟩ (fun r => ∀ c : Dev nD,
      r.2.mem ((c.tc : Thread nD τ).loc main_v10)
        = (fun _ => loss (kfeats (m ((c.tc : Thread nD τ).loc main_arg0))) (klabels (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (tail_v10 m c), (h c).2⟩) (result_main m ρ)

end Cert.KernelIdeal.Hand

end
-- ==== Proof.Ref.Frame.lean ====
/- The reference's frame: it runs, leaves its arguments as launched and every counter at zero. -/
module

public import proofs.«01_k».proof.Defs
public import proofs.«01_k».proof.Proof.Gen.ReferenceIdeal.Run

@[expose] public section

set_option maxRecDepth 16384

noncomputable section

namespace Cert.Proof

open Idealize.ShloMosaic Idealize.SL.Sem

/-- The reference, a program of host operations alone, runs and leaves its arguments and the counters as it found
    them. -/
theorem ref_frame : quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Math.Sums.lean ====
/- Sums of extended reals: when a sum of differences is the difference of the sums, and the scaling of a sum by a
   nonnegative real. -/
module

public import Idealize.ShloMosaic.PureOps.Ideal

@[expose] public section

namespace Cert.Contrast

open Idealize.ShloMosaic

variable {ι : Type} [Fintype ι]

/-- A sum with a term at minus infinity is minus infinity. -/
theorem sum_eq_bot (f : ι → EReal) (j : ι) (hj : f j = ⊥) : ∑ i, f i = ⊥ := by
  classical
  rw [← Finset.add_sum_erase Finset.univ f (Finset.mem_univ j), hj, EReal.bot_add]

/-- A sum none of whose terms is plus infinity is not plus infinity. -/
theorem sum_ne_top (s : Finset ι) (f : ι → EReal) (h : ∀ i ∈ s, f i ≠ ⊤) : ∑ i ∈ s, f i ≠ ⊤ :=
  Finset.sum_induction f (fun x => x ≠ ⊤) (fun _ _ ha hb => EReal.add_ne_top ha hb) EReal.zero_ne_top h

/-- Where no term is plus infinity, and the subtracted one is minus infinity only where the other is, the differences'
    sum is the sums' difference. -/
theorem sum_sub (a b : ι → EReal) (ha : ∀ i, a i ≠ ⊤) (hb : ∀ i, b i ≠ ⊤) (hab : ∀ i, b i = ⊥ → a i = ⊥) :
    ∑ i, (a i - b i) = ∑ i, a i - ∑ i, b i := by
  by_cases h : ∃ j, a j = ⊥
  · obtain ⟨j, hj⟩ := h
    rw [sum_eq_bot (fun i => a i - b i) j (by rw [hj, EReal.bot_sub]), sum_eq_bot a j hj, EReal.bot_sub]
  · have h' : ∀ i, a i ≠ ⊥ := fun i hi => h ⟨i, hi⟩
    have ea : ∀ i, a i = ((a i).toReal : EReal) := fun i => (EReal.coe_toReal (ha i) (h' i)).symm
    have eb : ∀ i, b i = ((b i).toReal : EReal) := fun i => (EReal.coe_toReal (hb i) fun e => h' i (hab i e)).symm
    have hs : ∀ f : ι → ℝ, ∑ i, ((f i : ℝ) : EReal) = ((∑ i, f i : ℝ) : EReal) := fun f => by
      classical
      exact (map_sum (⟨⟨fun r : ℝ => (r : EReal), EReal.coe_zero⟩, EReal.coe_add⟩ : ℝ →+ EReal) f Finset.univ).symm
    rw [Finset.sum_congr rfl fun i _ => ea i, Finset.sum_congr rfl fun i _ => eb i, hs, hs, ← EReal.coe_sub,
      ← Finset.sum_sub_distrib, ← hs]
    exact Finset.sum_congr rfl fun i _ => by rw [ea i, eb i]; exact (EReal.coe_sub _ _).symm

/-- Scaling by a nonnegative real goes through a sum. -/
theorem sum_mul_coe (f : ι → EReal) (c : ℝ) (hc : 0 ≤ c) : ∑ i, f i * (c : EReal) = (∑ i, f i) * (c : EReal) := by
  classical
  have h := map_sum (⟨⟨fun x : EReal => x * (c : EReal), zero_mul _⟩, fun x y =>
    EReal.right_distrib_of_nonneg_of_ne_top (EReal.coe_nonneg.mpr hc) (EReal.coe_ne_top c) x y⟩ : EReal →+ EReal) f Finset.univ
  exact h.symm

end Cert.Contrast
-- ==== Proof.Math.Loss.lean ====
/- The two forms of the loss agree: within a row no logit is plus infinity, no logarithm is plus infinity, and a
   logarithm is minus infinity only where the logit is; over rows, dividing twice is dividing by the product. -/
module

public import proofs.«01_k».proof.Proof.Math.Spec
public import proofs.«01_k».proof.Proof.Math.Sums

@[expose] public section

namespace Cert.Contrast

open Idealize.ShloMosaic

variable (x : Fin 2048 → Fin 512 → EReal) (lab : Fin 2048 → EReal)

theorem d2_nonneg (i j : Fin 2048) : 0 ≤ d2 x i j := le_max_right _ _

/-- A square root of something nonnegative is nonnegative. -/
theorem sqrt_nonneg (y : EReal) (hy : 0 ≤ y) : 0 ≤ Ideal.sqrt y := by
  induction y with
  | bot => exact absurd hy (by simp)
  | top => exact le_top
  | coe r =>
    have hr : 0 ≤ r := EReal.coe_nonneg.mp hy
    rw [Ideal.sqrt_coe, if_neg (not_lt.mpr hr)]
    exact EReal.coe_nonneg.mpr (Real.sqrt_nonneg r)

/-- No logit is positive. -/
theorem logit_nonpos (i j : Fin 2048) : logit x i j ≤ 0 := by
  unfold logit
  have h := sqrt_nonneg _ (d2_nonneg x i j)
  revert h
  generalize Ideal.sqrt (d2 x i j) = y
  intro h
  have hs : scale ≤ 0 := by unfold scale; exact EReal.coe_nonpos.mpr (by norm_num)
  exact mul_nonpos_of_nonneg_of_nonpos h hs

/-- The exponential is nonnegative, and below plus infinity at nonpositive arguments. -/
theorem exp_nonneg (y : EReal) : 0 ≤ Ideal.exp y := by
  induction y with
  | bot => exact le_rfl
  | top => exact le_top
  | coe r => exact EReal.coe_nonneg.mpr (Real.exp_pos r).le

theorem exp_ne_top (y : EReal) (hy : y ≤ 0) : Ideal.exp y ≠ ⊤ := by
  induction y with
  | bot => exact EReal.zero_ne_top
  | top => exact absurd hy (by simp)
  | coe r => exact EReal.coe_ne_top _

theorem eq_bot_of_exp_eq_zero (y : EReal) (h : Ideal.exp y = 0) : y = ⊥ := by
  induction y with
  | bot => rfl
  | top => exact absurd h (by simp)
  | coe r => exact absurd (EReal.coe_eq_zero.mp h) (Real.exp_pos r).ne'

theorem wgt_nonneg (i j : Fin 2048) : 0 ≤ wgt x i j := by
  unfold wgt; split
  · exact le_rfl
  · exact exp_nonneg _

theorem wgt_ne_top (i j : Fin 2048) : wgt x i j ≠ ⊤ := by
  unfold wgt; split
  · exact EReal.zero_ne_top
  · exact exp_ne_top _ (logit_nonpos x i j)

theorem pos_ne_top (i j : Fin 2048) : pos x i j ≠ ⊤ := by
  unfold pos; split
  · exact EReal.zero_ne_top
  · exact fun h => absurd (logit_nonpos x i j) (by rw [h]; simp)

theorem neg_ne_top (i j : Fin 2048) : neg x lab i j ≠ ⊤ := by
  unfold neg
  refine sum_ne_top _ _ fun l _ => ?_
  split
  · exact wgt_ne_top x i l
  · exact EReal.zero_ne_top

/-- The sum is at least its own term. -/
theorem wgt_le_neg (i j : Fin 2048) : wgt x i j ≤ neg x lab i j := by
  unfold neg
  have h := Finset.single_le_sum (s := Finset.univ) (f := fun l => if dis lab i j ≤ dis lab i l then wgt x i l else 0)
    (fun l _ => by
      show 0 ≤ if dis lab i j ≤ dis lab i l then wgt x i l else 0
      split
      · exact wgt_nonneg x i l
      · exact le_rfl) (Finset.mem_univ j)
  simpa using h

theorem log_eq_top (y : EReal) (h : Ideal.log y = ⊤) : y = ⊤ := by
  induction y with
  | bot => exact absurd h (by simp)
  | top => rfl
  | coe r =>
    rw [Ideal.log_coe] at h
    split at h
    · exact absurd h (by simp)
    · exact absurd h (EReal.coe_ne_top _)

theorem nonpos_of_log_eq_bot (y : EReal) (h : Ideal.log y = ⊥) : y ≤ 0 := by
  induction y with
  | bot => exact bot_le
  | top => exact absurd h (by simp)
  | coe r =>
    rw [Ideal.log_coe] at h
    split at h
    · rename_i hr; exact EReal.coe_nonpos.mpr hr
    · exact absurd h (EReal.coe_ne_bot _)

theorem lneg_ne_top (i j : Fin 2048) : lneg x lab i j ≠ ⊤ := fun h => by
  have h := log_eq_top _ h
  split at h
  · exact EReal.coe_ne_top 1 h
  · exact neg_ne_top x lab i j h

/-- Where a logarithm is minus infinity its logit is. -/
theorem pos_eq_bot (i j : Fin 2048) (h : lneg x lab i j = ⊥) : pos x i j = ⊥ := by
  have h := nonpos_of_log_eq_bot _ h
  split at h
  · exact absurd h (by simp)
  · rename_i hij
    have hw : wgt x i j = 0 := le_antisymm ((wgt_le_neg x lab i j).trans h) (wgt_nonneg x i j)
    unfold wgt at hw
    unfold pos
    rw [if_neg hij] at hw ⊢
    exact eq_bot_of_exp_eq_zero _ hw

/-- A row's summed differences are the difference of its sums. -/
theorem row_eq (i : Fin 2048) : ∑ j, (pos x i j - lneg x lab i j) = row x lab i :=
  sum_sub _ _ (pos_ne_top x i) (lneg_ne_top x lab i) (pos_eq_bot x lab i)

/-- The mean of the rows' means is the sum over the number of pairs. -/
theorem lossOfMeans_eq : lossOfMeans x lab = loss x lab := by
  unfold lossOfMeans loss
  simp only [row_eq]
  rw [Ideal.div_coe (by norm_num), Ideal.div_coe (by norm_num)]
  simp only [Ideal.div_coe (show (2047 : ℝ) ≠ 0 by norm_num)]
  rw [sum_mul_coe _ _ (by norm_num), mul_assoc, ← EReal.coe_mul]
  norm_num

end Cert.Contrast
-- ==== Proof.Ref.Reads.lean ====
module
public import Idealize.ShloMosaic.PureOps.Ideal
public import Idealize.ShloMosaic.Lib.Pointwise
public import Idealize.ShloMosaic.Lib.Routing.Ops
public import Idealize.ShloMosaic.Lib.SortFacts

@[expose] public section

set_option maxRecDepth 4096

namespace Cert.Contrast

open Idealize Idealize.ShloMosaic
open Idealize.ShloMosaic.ValueIdx hiding ix0 ix1 ix2 ix3 eq_ix0 eq_ix1 eq_ix2 eq_ix3
open Idealize.ShloMosaic.Routing (shape0 shape1 shape2 shape3 symm2 numel2)

noncomputable section

/-- A left fold of additions is its start plus the sum of the terms. -/
theorem foldl_add_eq {ι : Type} (l : List ι) (f : ι → EReal) (v : EReal) :
    l.foldl (fun r a => r + f a) v = v + (l.map f).sum := by
  induction l generalizing v with
  | nil => simp
  | cons a l ih => rw [List.foldl_cons, ih, List.map_cons, List.sum_cons, add_assoc]

/-- The window of length `Nm1 + 1` ending at `j` sums the entries up to `j`: the rest of it is padding. -/
theorem sum_window_prefix (Nm1 : Nat) (j : Fin (Nm1 + 1)) (f : Fin (Nm1 + 1) → EReal) :
    (∑ n : Fin (Nm1 + 1), if h : Nm1 ≤ j.val + n.val then f ⟨j.val + n.val - Nm1, by omega⟩ else 0)
      = ∑ m : Fin (Nm1 + 1), if m ≤ j then f m else 0 := by
  have hj := j.isLt
  rw [← Finset.sum_filter]
  have e2 : (∑ n : Fin (Nm1 + 1), if h : Nm1 ≤ j.val + n.val then f ⟨j.val + n.val - Nm1, by omega⟩ else 0)
      = ∑ n ∈ Finset.univ.filter (fun n : Fin (Nm1 + 1) => Nm1 ≤ j.val + n.val),
          f ⟨j.val + n.val - Nm1, by omega⟩ := by
    rw [Finset.sum_filter]
    refine Finset.sum_congr rfl fun n _ => ?_
    by_cases h : Nm1 ≤ j.val + n.val
    · rw [dif_pos h, if_pos h]
    · rw [dif_neg h, if_neg h]
  rw [e2]
  refine Finset.sum_bij (fun n _ => (⟨j.val + n.val - Nm1, by omega⟩ : Fin (Nm1 + 1))) ?_ ?_ ?_ ?_
  · intro n hn
    have hn' := (Finset.mem_filter.1 hn).2
    have := n.isLt
    exact Finset.mem_filter.2 ⟨Finset.mem_univ _, by show j.val + n.val - Nm1 ≤ j.val; omega⟩
  · intro n hn n' hn' e
    have h1 := (Finset.mem_filter.1 hn).2
    have h2 := (Finset.mem_filter.1 hn').2
    have h3 : j.val + n.val - Nm1 = j.val + n'.val - Nm1 := congrArg Fin.val e
    exact Fin.ext (by omega)
  · intro m hm
    have hm' : m.val ≤ j.val := (Finset.mem_filter.1 hm).2
    exact ⟨⟨m.val + Nm1 - j.val, by omega⟩,
      Finset.mem_filter.2 ⟨Finset.mem_univ _, by show Nm1 ≤ j.val + (m.val + Nm1 - j.val); omega⟩,
      Fin.ext (by show j.val + (m.val + Nm1 - j.val) - Nm1 = m.val; omega)⟩
  · intro n hn
    rfl

/-- The running sum along the columns: entry `(i, j)` is the sum of the row's entries up to `j`. -/
theorem cumsum_apply {R N Nm1 : Nat} (hN : Nm1 + 1 = N) (x : FVec Ideal (shape2 R N) .f32)
    (init : FVec Ideal shape0 .f32) (hinit : init ix0 = (0 : EReal))
    (h : (shape2 R N).ReduceWindows (![1, N] : Fin 2 → Nat) ![1, 1] ![0, Nm1] ![0, 0] (shape2 R N))
    (hu : 0 < shape0.numel) (i : Fin R) (j : Fin N) :
    Host.reduceWindow (fun a b : EReal => a + b) ![1, N] ![1, 1] ![0, Nm1] ![0, 0] x init h hu (ix2 i j)
      = ∑ m : Fin N, if m ≤ j then (x (ix2 i m) : EReal) else 0 := by
  subst hN
  have hv : init (Shape.Idx.first hu) = (0 : EReal) := (congrArg init (funext fun a => a.elim0)).trans hinit
  unfold Host.reduceWindow
  have hj := j.isLt
  refine (foldl_add_eq _ _ _).trans ?_
  rw [hv, zero_add, ← sum_window_prefix Nm1 j (fun m => x (ix2 i m)),
    ← (finCongr (numel2 (Nm1 + 1))).sum_comp]
  refine (Fin.sum_univ_def _).symm.trans (Finset.sum_congr rfl fun n _ => ?_)
  have hw0 : ((shape2 1 (Nm1 + 1)).rowMajor.symm n 0).val = 0 := by rw [symm2]; rfl
  have hw : ((shape2 1 (Nm1 + 1)).rowMajor.symm n 1).val = n.val := by rw [symm2]; rfl
  have hn : n.val < Nm1 + 1 := (n.cast (numel2 _)).isLt
  have hi := i.isLt
  by_cases hle : Nm1 ≤ j.val + n.val
  · refine (dif_pos fun a => ?_).trans (Eq.trans ?_ (dif_pos hle).symm)
    · match a with
      | ⟨0, _⟩ =>
        show 0 ≤ i.val * 1 + ((shape2 1 (Nm1 + 1)).rowMajor.symm n 0).val
          ∧ i.val * 1 + ((shape2 1 (Nm1 + 1)).rowMajor.symm n 0).val - 0 < R
        rw [hw0]; omega
      | ⟨1, _⟩ =>
        show Nm1 ≤ j.val * 1 + ((shape2 1 (Nm1 + 1)).rowMajor.symm n 1).val
          ∧ j.val * 1 + ((shape2 1 (Nm1 + 1)).rowMajor.symm n 1).val - Nm1 < Nm1 + 1
        rw [hw]; omega
    · refine congrArg x (funext fun a => Fin.ext ?_)
      match a with
      | ⟨0, _⟩ =>
        show i.val * 1 + ((shape2 1 (Nm1 + 1)).rowMajor.symm n 0).val - 0 = i.val
        rw [hw0]; omega
      | ⟨1, _⟩ =>
        show j.val * 1 + ((shape2 1 (Nm1 + 1)).rowMajor.symm n 1).val - Nm1 = j.val + n.val - Nm1
        rw [hw, Nat.mul_one]
  · refine (dif_neg fun hin => hle ?_).trans (Eq.symm ?_)
    rotate_left
    · exact dif_neg hle
    have h1 := (hin 1).1
    change Nm1 ≤ j.val * 1 + ((shape2 1 (Nm1 + 1)).rowMajor.symm n 1).val at h1
    rw [hw, Nat.mul_one] at h1
    exact h1

/-- The same for the host's operation. -/
theorem cumsum_host_apply {R N Nm1 : Nat} (hN : Nm1 + 1 = N) (x : FVec Ideal (shape2 R N) .f32)
    (init : FVec Ideal shape0 .f32) (hinit : init ix0 = (0 : EReal))
    (h : (shape2 R N).ReduceWindows (![1, N] : Fin 2 → Nat) ![1, 1] ![0, Nm1] ![0, 0] (shape2 R N))
    (hu : 0 < shape0.numel) (i : Fin R) (j : Fin N) :
    Host.reduceWindowAdd ![1, N] ![1, 1] ![0, Nm1] ![0, 0] x init h hu (ix2 i j)
      = ∑ m : Fin N, if m ≤ j then (x (ix2 i m) : EReal) else 0 :=
  cumsum_apply hN x (fun _ => init (Shape.Idx.first hu)) ((congrArg init (funext fun a => a.elim0)).trans hinit) h hu i j

/-- Reading along the rows: where the index word at `(i, k)` holds a number `v` below the row's length, the
result holds the row's entry `v`. -/
theorem gather_along {α : Type} {R N K : Nat} (d : GatherDims (shape2 R N) (shape3 R K 1) (shape2 R K))
    (hod : d.offsetDims = []) (hcoll : d.collapsedSliceDims = [1]) (hob : d.operandBatchingDims = [0])
    (hsb : d.startIndicesBatchingDims = [0]) (hsim : d.startIndexMap = [1]) (hivd : d.indexVectorDim = 2)
    (x : (shape2 R N).Idx → α) (idx : IVec (shape3 R K 1) 32) (i : Fin R) (k : Fin K) (v : Fin N)
    (hv : (idx (ix3 i k (0 : Fin 1))).toInt.toNat = v.val) :
    Host.gather d x idx (ix2 i k) = x (ix2 i v) := by
  obtain ⟨od, coll, ob, sb, sim, ivd, ss, wf⟩ := d
  dsimp only at hod hcoll hob hsb hsim hivd
  subst hod hcoll hob hsb hsim hivd
  have hvl := v.isLt
  have hss : ss 1 = 1 := GatherDims.slice_collapsed (⟨[], [1], [0], [0], [1], 2, ss, wf⟩ : GatherDims (shape2 R N) (shape3 R K 1) (shape2 R K)) 1 (List.mem_singleton.2 rfl)
  refine congrArg x (funext fun a => Fin.ext ?_)
  match a with
  | ⟨0, _⟩ =>
    show 0 + i.val + 0 = i.val
    omega
  | ⟨1, _⟩ =>
    have e : GatherDims.siIdx (⟨[], [1], [0], [0], [1], 2, ss, wf⟩ : GatherDims (shape2 R N) (shape3 R K 1) (shape2 R K)) (ix2 i k) ⟨0, Nat.one_pos⟩
        = ix3 i k (0 : Fin 1) := by
      funext b
      match b with
      | ⟨0, _⟩ => rfl
      | ⟨1, _⟩ => rfl
      | ⟨2, _⟩ => rfl
    show min (idx (GatherDims.siIdx (⟨[], [1], [0], [0], [1], 2, ss, wf⟩ : GatherDims (shape2 R N) (shape3 R K 1) (shape2 R K)) (ix2 i k) ⟨0, Nat.one_pos⟩)).toInt.toNat (N - ss 1) + 0 + 0 = v.val
    rw [e, hv, hss]
    omega

/-- The conjunction of bits that are all one, from a bit that is one, is one. -/
theorem reduce_and_ones {s t u : Shape} {axes : List (Fin s.rank)} (x : IVec s 1) (hx : ∀ i, x i = 1#1) (init : IVec u 1)
    (h : s.ReducesTo axes t) (hu : 0 < u.numel) (hinit : init (Shape.Idx.first hu) = 1#1) (j : t.Idx) :
    Host.reduce IntOp.andi x init h hu j = 1#1 := by
  rw [Host.reduce_eq_foldl, hinit]
  generalize List.filter _ _ = l
  induction l with
  | nil => rfl
  | cons a l ih => rw [List.foldl_cons, hx a]; exact ih

/-- Word addition may be regrouped. -/
instance addi_assoc : Std.Associative (IntOp.addi (w := 32)) := ⟨BitVec.add_assoc⟩

/-- Word addition may be reordered. -/
instance addi_comm : Std.Commutative (IntOp.addi (w := 32)) := ⟨BitVec.add_comm⟩

/-- Adding up bits, each widened to a word, counts the ones. -/
theorem fold_addi_count {ι : Type} [DecidableEq ι] (s : Finset ι) (b : ι → BitVec 1) :
    s.fold IntOp.addi (0#32) (fun k => (b k).setWidth 32) = BitVec.ofNat 32 (s.filter fun k => b k = 1#1).card := by
  induction s using Finset.induction_on with
  | empty => rfl
  | insert a s ha ih =>
    rw [Finset.fold_insert ha, ih, Finset.filter_insert]
    by_cases hb : b a = 1#1
    · rw [if_pos hb, hb, Finset.card_insert_of_notMem (fun h => ha (Finset.mem_filter.1 h).1), Nat.add_comm, BitVec.ofNat_add]
      rfl
    · rw [if_neg hb, eq_zero_of_ne_one hb]
      exact BitVec.zero_add _

end

end Cert.Contrast
-- ==== Proof.Ref.Logits.lean ====
/- The reference's features, labels, logits and label distances, entry by entry. -/
module

public import proofs.«01_k».proof.Proof.Gen.ReferenceIdeal.Run
public import proofs.«01_k».proof.Proof.Math.Spec
public import proofs.«01_k».proof.Proof.Math.Consts
public import proofs.«01_k».proof.Proof.Math.Loss
public import Idealize.ShloMosaic.Lib.Pointwise
public import proofs.«01_k».proof.Proof.Ref.Reads

@[expose] public section

set_option maxRecDepth 16384

noncomputable section

namespace Cert.ReferenceIdeal.Hand

open Cert.ReferenceIdeal Cert.ReferenceIdeal.Gen Cert.ReferenceIdeal.Value Cert.Contrast Idealize.ShloMosaic Idealize.ShloMosaic.TcCoe

variable (V0 : Valuation τ sig (Elt Ideal))

/-- The stacked features, one row per sample. -/
def feats (i : Fin 2048) (k : Fin 512) : EReal := res_main_v1 V0 (ix2 i k)

/-- The labels, once per view. -/
def labels (i : Fin 2048) : EReal := res_main_v4 V0 (ix1 i)

/-- The squared norms. -/
theorem v6_apply (i : Fin 2048) : res_main_v6 V0 (ix1 i) = Contrast.sq (feats V0) i := by
  unfold res_main_v6 Contrast.sq feats
  pointwise

/-- The squared distances, cut off below at zero. -/
theorem v18_apply (i j : Fin 2048) : res_main_v18 V0 (ix2 i j) = d2 (feats V0) i j := by
  unfold res_main_v18
  pointwise
  rw [v6_apply, v6_apply, lit_two]
  rfl

/-- The logits. -/
theorem v28_apply (i j : Fin 2048) : res_main_v28 V0 (ix2 i j) = logit (feats V0) i j := by
  unfold res_main_v28
  pointwise [id_eq]
  rw [v18_apply, lit_temperature]
  have h0 := d2_nonneg (feats V0) i j
  have e : (if 0 < d2 (feats V0) i j then Ideal.sqrt (if 0 < d2 (feats V0) i j then d2 (feats V0) i j else 1) else 0)
      = Ideal.sqrt (d2 (feats V0) i j) := by
    by_cases h : 0 < d2 (feats V0) i j
    · rw [if_pos h, if_pos h]
    · rw [if_neg h, le_antisymm (not_lt.1 h) h0, ← EReal.coe_zero, Ideal.sqrt_coe, Real.sqrt_zero]
      simp
  rw [e, Ideal.div_coe (by norm_num), logit, scale, neg_mul, ← mul_neg, ← EReal.coe_neg]
  norm_num

/-- The identity matrix. -/
theorem v34_apply (i j : Fin 2048) : res_main_v34 V0 (ix2 i j) = if i = j then (1 : EReal) else 0 := by
  unfold res_main_v34
  pointwise
  have e : (BitVec.ofNat 32 i.val = BitVec.ofNat 32 j.val) ↔ i = j := by
    constructor
    · intro h
      have := congrArg BitVec.toNat h
      simp only [BitVec.toNat_ofNat] at this
      exact Fin.ext (by omega)
    · rintro rfl; rfl
  show ((((BitVec.ofBool (BitVec.ofNat 32 i.val + 0#32 == BitVec.ofNat 32 j.val)).toNat : ℕ) : ℝ) : EReal) = _
  rw [BitVec.add_zero]
  by_cases h : i = j
  · rw [if_pos h, beq_iff_eq.2 (e.2 h)]
    simp
  · rw [if_neg h, beq_eq_false_iff_ne.2 (fun h' => h (e.1 h'))]
    simp

/-- The label distances. -/
theorem v44_apply (i j : Fin 2048) : res_main_v44 V0 (ix2 i j) = dis (labels V0) i j := by
  unfold res_main_v44
  pointwise
  rfl

end Cert.ReferenceIdeal.Hand
-- ==== Proof.Ref.Order.lean ====
/- The reference's sort of each row's label distances, and the index words it makes of it. -/
module

public import proofs.«01_k».proof.Proof.Ref.Logits
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Value Cert.Contrast Idealize.ShloMosaic Idealize.ShloMosaic.TcCoe

variable (V0 : Valuation τ sig (Elt Ideal))

/-- The sort's key of a number is the number: it is no NaN, and there is one zero. -/
theorem key_eq (x : EReal) :
    Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32))
        (FloatOps.ofBits .f32 0x00000000#32 : Ideal .f32) x) = x := by
  have h1 : FloatOps.cmpf (F := Ideal) (φ := .f32) .une x x = 0#1 := by
    show BitVec.ofBool (decide (x ≠ x)) = 0#1
    simp
  rw [h1, ValueIdx.select_zero]
  show Scalar.select (BitVec.ofBool (decide (x = Ideal.ofBits .f32 0x00000000#32))) (Ideal.ofBits .f32 0x00000000#32) x = x
  by_cases h : x = Ideal.ofBits .f32 0x00000000#32
  · rw [decide_eq_true h]; exact (ValueIdx.select_one _ _).trans h.symm
  · rw [decide_eq_false h]; exact ValueIdx.select_zero _ _

/-- The sort's comparator puts a smaller number first. -/
theorem comparator_eq (l r : Ideal .f32 × BitVec 32) :
    comparator_f32_i32_d1 l r = BitVec.ofBool (decide ((l.1 : EReal) < r.1)) := by
  unfold comparator_f32_i32_d1
  dsimp only
  rw [key_eq, key_eq]
  rfl

/-- The sample at place `k` when row `i`'s label distances are in rising order. -/
def order (i k : Fin 2048) : Fin 2048 :=
  sortedFrom (fun a b => decide (dis (labels V0) i a < dis (labels V0) i b)) k

/-- No sample comes twice in the order. -/
theorem order_injective (i : Fin 2048) : Function.Injective (order V0 i) := sortedFrom_injective _

/-- Later places hold no smaller distances. -/
theorem order_mono (i a b : Fin 2048) (h : a < b) :
    dis (labels V0) i (order V0 i a) ≤ dis (labels V0) i (order V0 i b) := by
  have := sortedFrom_noInversion (fun a b => decide (dis (labels V0) i a < dis (labels V0) i b))
    (fun a b => decide (dis (labels V0) i a < dis (labels V0) i b))
    (fun a b h => by simp only [decide_eq_true_eq, decide_eq_false_iff_not] at h ⊢; exact not_lt.2 h.le)
    (fun a b h => h)
    (fun a b c h1 h2 => by simp only [decide_eq_false_iff_not, not_lt] at h1 h2 ⊢; exact h2.trans h1) a b h
  simp only [decide_eq_false_iff_not, not_lt] at this
  exact this

/-- Along a row, the index at place `m`. -/
theorem along_row (i k m : Fin 2048) : (ix2 i k : S2048x2048.Idx).along 1 m = ix2 i m := by
  funext a
  match a with
  | ⟨0, _⟩ => rfl
  | ⟨1, _⟩ => rfl

/-- The sorted order, as index words. -/
theorem v45_apply (i k : Fin 2048) : res_main_v45 V0 (ix2 i k) = BitVec.ofNat 32 (order V0 i k).val := by
  have e : (fun a b : Fin 2048 => comparator_f32_i32_d1 (F := Ideal)
      (res_main_v44 V0 ((ix2 i k : S2048x2048.Idx).along 1 a), res_main_call2_v0 V0 ((ix2 i k : S2048x2048.Idx).along 1 a))
      (res_main_v44 V0 ((ix2 i k : S2048x2048.Idx).along 1 b), res_main_call2_v0 V0 ((ix2 i k : S2048x2048.Idx).along 1 b)) == 1#1)
      = fun a b => decide (dis (labels V0) i a < dis (labels V0) i b) := by
    funext a b
    rw [comparator_eq, along_row, along_row]
    dsimp only
    rw [v44_apply, v44_apply]
    by_cases h : dis (labels V0) i a < dis (labels V0) i b
    · rw [decide_eq_true h]; rfl
    · rw [decide_eq_false h]; rfl
  have : res_main_v45 V0 (ix2 i k) = res_main_call2_v0 V0 ((ix2 i k : S2048x2048.Idx).along 1 (sortedFrom (fun a b : Fin 2048 => comparator_f32_i32_d1 (F := Ideal)
      (res_main_v44 V0 ((ix2 i k : S2048x2048.Idx).along 1 a), res_main_call2_v0 V0 ((ix2 i k : S2048x2048.Idx).along 1 a))
      (res_main_v44 V0 ((ix2 i k : S2048x2048.Idx).along 1 b), res_main_call2_v0 V0 ((ix2 i k : S2048x2048.Idx).along 1 b)) == 1#1) k)) := by
    unfold res_main_v45 Host.sort2
    rw [dif_pos (by decide)]
    rfl
  rw [this, e]
  exact (congrArg (res_main_call2_v0 V0) (along_row i k (order V0 i k))).trans rfl

/-- A small word is not below zero. -/
theorem wrap_small (n : Nat) (a : BitVec 32) (h : n < 2 ^ 31) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact h)

/-- The order's words as the first take's start indices. -/
theorem call3_apply (i k : Fin 2048) : res_main_call3_v5 V0 (ix3 i k (0 : Fin 1)) = BitVec.ofNat 32 (order V0 i k).val := by
  unfold res_main_call3_v5
  pointwise
  rw [v45_apply]
  exact wrap_small _ _ (by have := (order V0 i k).isLt; omega)

/-- The order's words as the second take's start indices. -/
theorem call4_apply (i k : Fin 2048) : res_main_call4_v5 V0 (ix3 i k (0 : Fin 1)) = BitVec.ofNat 32 (order V0 i k).val :=
  call3_apply V0 i k

/-- A take along rows whose index words are all in range reads the entry named: the bounds test passes. -/
theorem take_apply {N hi : Nat} (hN : hi + 1 = N) (hhi : hi < 2 ^ 31) (d : GatherDims (Routing.shape2 2048 N) S2048x2048x1 S2048x2048)
    (hod : d.offsetDims = []) (hcoll : d.collapsedSliceDims = [1]) (hob : d.operandBatchingDims = [0])
    (hsb : d.startIndicesBatchingDims = [0]) (hsim : d.startIndexMap = [1]) (hivd : d.indexVectorDim = 2)
    (x : FVec Ideal (Routing.shape2 2048 N) .f32) (idx : IVec S2048x2048x1 32) (v : Fin 2048 → Fin 2048 → Fin N)
    (hv : ∀ i k, idx (ix3 i k (0 : Fin 1)) = BitVec.ofNat 32 (v i k).val) (fill : FVec Ideal S2048x2048 .f32) (i k : Fin 2048) :
    select (Host.reduce IntOp.andi (andi (cmpi .sge idx (broadcastInDim S2048x2048x1 ![] bcast_S_S2048x2048x1 (constantI S_ 32 0#32))) (cmpi .sle idx (broadcastInDim S2048x2048x1 ![0, 1, 2] bcast_S1x1x1_S2048x2048x1_0_1_2 (broadcastInDim S1x1x1 ![2] bcast_S1_S1x1x1_2 (constantI S1 32 (BitVec.ofNat 32 hi)))))) (constantI S_ 1 1#1) reducesTo_S2048x2048x1_S2048x2048_d2 h_S_) (Host.gather d x idx) fill (ix2 i k)
      = x (ix2 i (v i k)) := by
  have toInt_small : ∀ n : Nat, n < 2 ^ 31 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  have hmask : ∀ p, andi (cmpi .sge idx (broadcastInDim S2048x2048x1 ![] bcast_S_S2048x2048x1 (constantI S_ 32 0#32))) (cmpi .sle idx (broadcastInDim S2048x2048x1 ![0, 1, 2] bcast_S1x1x1_S2048x2048x1_0_1_2 (broadcastInDim S1x1x1 ![2] bcast_S1_S1x1x1_2 (constantI S1 32 (BitVec.ofNat 32 hi))))) p = 1#1 := by
    intro p
    obtain ⟨a, b, c, rfl⟩ : ∃ (a b : Fin 2048) (c : Fin 1), p = ix3 a b c := ⟨p 0, p 1, p 2, eq_ix3 p⟩
    obtain rfl : c = 0 := Subsingleton.elim _ _
    have hb := (v a b).isLt
    show IntOp.andi (IntOp.cmpi .sge (idx (ix3 a b 0)) 0#32) (IntOp.cmpi .sle (idx (ix3 a b 0)) (BitVec.ofNat 32 hi)) = 1#1
    rw [hv]
    show (BitVec.ofBool ((0#32).sle (BitVec.ofNat 32 (v a b).val))) &&& (BitVec.ofBool ((BitVec.ofNat 32 (v a b).val).sle (BitVec.ofNat 32 hi))) = 1#1
    have h1 : (0#32).sle (BitVec.ofNat 32 (v a b).val) = true := by
      rw [BitVec.sle_iff_toInt_le, toInt_small (v a b).val (by omega)]
      simp
    have h2 : (BitVec.ofNat 32 (v a b).val).sle (BitVec.ofNat 32 hi) = true := by
      rw [BitVec.sle_iff_toInt_le, toInt_small _ (by omega), toInt_small _ (by omega)]
      omega
    rw [h1, h2]
    rfl
  show Scalar.select (Host.reduce IntOp.andi _ (constantI S_ 1 1#1) reducesTo_S2048x2048x1_S2048x2048_d2 h_S_ (ix2 i k)) _ _ = _
  rw [reduce_and_ones _ hmask _ _ _ rfl, ValueIdx.select_one]
  exact gather_along d hod hcoll hob hsb hsim hivd x idx i k (v i k) (by
    have := (v i k).isLt
    rw [hv, toInt_small _ (by omega)]; rfl)

end Cert.ReferenceIdeal.Hand
-- ==== Proof.Math.Sorted.lean ====
/- Sums over a sorted row: summing the weights from the first sorted position not below a threshold is summing the weights
   of all entries that reach the threshold. -/
module

public import Mathlib.Order.Interval.Finset.Fin
public import Idealize.ShloMosaic.PureOps.Ideal

@[expose] public section

namespace Cert.Contrast

variable {n : ℕ} {α : Type} [LinearOrder α] {M : Type} [AddCommMonoid M]

/-- Along an ascending row, a position is at or past the number of entries below `t` exactly when its entry reaches
    `t`. -/
theorem card_below_le_iff (s : Fin n → α) (hs : ∀ a b, a < b → s a ≤ s b) (t : α) (m : Fin n) :
    (Finset.univ.filter fun a => s a < t).card ≤ m.val ↔ t ≤ s m := by
  constructor
  · intro h
    by_contra hlt
    have hsub : Finset.Iic m ⊆ Finset.univ.filter fun a => s a < t := fun a ha => by
      rw [Finset.mem_Iic] at ha
      refine Finset.mem_filter.mpr ⟨Finset.mem_univ _, ?_⟩
      rcases ha.lt_or_eq with h' | h'
      · exact lt_of_le_of_lt (hs _ _ h') (not_le.mp hlt)
      · rw [h']; exact not_le.mp hlt
    have := Finset.card_le_card hsub
    rw [Fin.card_Iic] at this
    omega
  · intro h
    have hsub : (Finset.univ.filter fun a => s a < t) ⊆ Finset.Iio m := fun a ha => by
      rw [Finset.mem_Iio]
      have ha := (Finset.mem_filter.mp ha).2
      by_contra hn
      rcases (not_lt.mp hn).lt_or_eq with h' | h'
      · exact absurd (lt_of_le_of_lt (h.trans (hs _ _ h')) ha) (lt_irrefl _)
      · rw [← h'] at ha; exact absurd (lt_of_le_of_lt h ha) (lt_irrefl _)
    have := Finset.card_le_card hsub
    rwa [Fin.card_Iio] at this

/-- The weights summed from the first sorted position whose entry reaches `t` are those of all entries that reach `t`. -/
theorem sum_from_card_below (d : Fin n → α) (w : Fin n → M) (σ : Fin n → Fin n) (hσ : Function.Injective σ)
    (hs : ∀ a b, a < b → d (σ a) ≤ d (σ b)) (t : α) :
    (∑ m : Fin n, if (Finset.univ.filter fun a => d (σ a) < t).card ≤ m.val then w (σ m) else 0)
      = ∑ l, if t ≤ d l then w l else 0 := by
  simp only [card_below_le_iff (fun a => d (σ a)) hs t]
  exact (Equiv.ofBijective σ (Finite.injective_iff_bijective.mp hσ)).sum_comp fun l => if t ≤ d l then w l else 0

end Cert.Contrast
-- ==== Proof.Ref.Negative.lean ====
/- The reference's sums over the samples at least as far away: the suffix sums of the sorted weights, read at the
   number of smaller distances. -/
module

public import proofs.«01_k».proof.Proof.Ref.Order
public import proofs.«01_k».proof.Proof.Math.Sorted

@[expose] public section

set_option maxRecDepth 16384

noncomputable section

namespace Cert.ReferenceIdeal.Hand

open Cert.ReferenceIdeal Cert.ReferenceIdeal.Gen Cert.ReferenceIdeal.Value Cert.Contrast Idealize.ShloMosaic Idealize.ShloMosaic.TcCoe

variable (V0 : Valuation τ sig (Elt Ideal))

/-- The label distances of each row, sorted. -/
def sortedDis : FVec Ideal S2048x2048 .f32 :=
  select (Host.reduce IntOp.andi (andi (cmpi .sge (res_main_call3_v5 V0) (broadcastInDim S2048x2048x1 ![] bcast_S_S2048x2048x1 (constantI S_ 32 0#32))) (cmpi .sle (res_main_call3_v5 V0) (broadcastInDim S2048x2048x1 ![0, 1, 2] bcast_S1x1x1_S2048x2048x1_0_1_2 (broadcastInDim S1x1x1 ![2] bcast_S1_S1x1x1_2 (constantI S1 32 2047#32))))) (constantI S_ 1 1#1) reducesTo_S2048x2048x1_S2048x2048_d2 h_S_) (Host.gather gather_S2048x2048_S2048x2048x1_S2048x2048_n_1_0_0_1_2_11 (res_main_v44 V0) (res_main_call3_v5 V0)) (broadcastInDim S2048x2048 ![] bcast_S_S2048x2048 (constant S_ .f32 0x7FC00000#32))

/-- Entry `(i, k)` of the sorted distances. -/
theorem sortedDis_apply (i k : Fin 2048) : sortedDis V0 (ix2 i k) = dis (labels V0) i (order V0 i k) :=
  (take_apply (N := 2048) (hi := 2047) rfl (by norm_num) _ rfl rfl rfl rfl rfl rfl (res_main_v44 V0) (res_main_call3_v5 V0) (order V0)
    (call3_apply V0) _ i k).trans (v44_apply V0 i _)

/-- The weights, zero on the diagonal. -/
def weights : FVec Ideal S2048x2048 .f32 :=
  mulf (Host.exp (res_main_v28 V0)) (subf (broadcastInDim S2048x2048 ![] bcast_S_S2048x2048 (constant S_ .f32 0x3F800000#32)) (res_main_v34 V0))

/-- What multiplying by one less the identity matrix does: it clears the diagonal. -/
theorem mul_off_diagonal (y : EReal) (i j : Fin 2048) : y * (1 - if i = j then (1 : EReal) else 0) = if i = j then 0 else y := by
  by_cases h : i = j
  · rw [if_pos h, if_pos h, ← EReal.coe_one, ← EReal.coe_sub, sub_self, EReal.coe_zero, mul_zero]
  · rw [if_neg h, if_neg h, sub_zero, mul_one]

/-- Entry `(i, j)` of the weights. -/
theorem weights_apply (i j : Fin 2048) : weights V0 (ix2 i j) = wgt (feats V0) i j := by
  unfold weights
  pointwise
  rw [v28_apply, v34_apply, mul_off_diagonal]
  rfl

/-- The weights of each row in the order of the distances. -/
def sortedWeights : FVec Ideal S2048x2048 .f32 :=
  select (Host.reduce IntOp.andi (andi (cmpi .sge (res_main_call4_v5 V0) (broadcastInDim S2048x2048x1 ![] bcast_S_S2048x2048x1 (constantI S_ 32 0#32))) (cmpi .sle (res_main_call4_v5 V0) (broadcastInDim S2048x2048x1 ![0, 1, 2] bcast_S1x1x1_S2048x2048x1_0_1_2 (broadcastInDim S1x1x1 ![2] bcast_S1_S1x1x1_2 (constantI S1 32 2047#32))))) (constantI S_ 1 1#1) reducesTo_S2048x2048x1_S2048x2048_d2 h_S_) (Host.gather gather_S2048x2048_S2048x2048x1_S2048x2048_n_1_0_0_1_2_11 (weights V0) (res_main_call4_v5 V0)) (broadcastInDim S2048x2048 ![] bcast_S_S2048x2048 (constant S_ .f32 0x7FC00000#32))

/-- Entry `(i, k)` of the sorted weights. -/
theorem sortedWeights_apply (i k : Fin 2048) : sortedWeights V0 (ix2 i k) = wgt (feats V0) i (order V0 i k) :=
  (take_apply (N := 2048) (hi := 2047) rfl (by norm_num) _ rfl rfl rfl rfl rfl rfl (weights V0) (res_main_call4_v5 V0) (order V0)
    (call4_apply V0) _ i k).trans (weights_apply V0 i _)

/-- How many of the row's samples are closer than `j`. -/
def closer (i j : Fin 2048) : Nat :=
  (Finset.univ.filter fun m : Fin 2048 => dis (labels V0) i (order V0 i m) < dis (labels V0) i j).card

/-- No more than all. -/
theorem closer_le (i j : Fin 2048) : closer V0 i j ≤ 2048 :=
  (Finset.card_le_univ _).trans (by simp)

/-- The number of smaller distances, as a word. -/
theorem v59_apply (i j : Fin 2048) : res_main_v59 V0 (ix2 i j) = BitVec.ofNat 32 (closer V0 i j) := by
  have h : res_main_v59 V0 (ix2 i j) = (Finset.univ : Finset (Fin 2048)).fold IntOp.addi 0#32
      (fun k => (FloatOps.cmpf (F := Ideal) (φ := .f32) .olt (sortedDis V0 (ix2 i k)) (res_main_v44 V0 (ix2 i j))).setWidth 32) := by
    have e : res_main_v59 V0 = Host.reduce IntOp.addi (extui 32 (cmpf .olt (broadcastInDim S2048x2048x2048 ![0, 1, 2] bcast_S2048x1x2048_S2048x2048x2048_0_1_2 (broadcastInDim S2048x1x2048 ![0, 2] bcast_S2048x2048_S2048x1x2048_0_2 (sortedDis V0))) (broadcastInDim S2048x2048x2048 ![0, 1, 2] bcast_S2048x2048x1_S2048x2048x2048_0_1_2 (broadcastInDim S2048x2048x1 ![0, 1] bcast_S2048x2048_S2048x2048x1_0_1 (res_main_v44 V0)))) natLt_1_32) (constantI S_ 32 0#32) reducesTo_S2048x2048x2048_S2048x2048_d2 h_S_ := rfl
    rw [e, Host.reduce_eq_fold (IntOp.addi (w := 32)), Shape.ReducesTo.fold_fiber_r3_a2]
    refine Finset.fold_congr (op := IntOp.addi (w := 32)) fun k _ => ?_
    pointwise
  rw [h, fold_addi_count]
  unfold closer
  refine congrArg (fun s : Finset (Fin 2048) => BitVec.ofNat 32 s.card) (Finset.filter_congr fun k _ => ?_)
  rw [sortedDis_apply, v44_apply]
  show BitVec.ofBool (decide _) = 1#1 ↔ _
  by_cases h : dis (labels V0) i (order V0 i k) < dis (labels V0) i j
  · simp [h]
  · simp [h]

/-- The same as the last take's start indices. -/
theorem call8_apply (i j : Fin 2048) : res_main_call8_v5 V0 (ix3 i j (0 : Fin 1)) = BitVec.ofNat 32 (closer V0 i j) := by
  unfold res_main_call8_v5
  pointwise
  rw [v59_apply]
  exact wrap_small _ _ (by have := closer_le V0 i j; omega)

/-- The suffix sums of the sorted weights, with a zero after the last. -/
def suffixes : FVec Ideal S2048x2049 .f32 :=
  concatenate S2048x2049 1 [⟨S2048x2048, (Host.reverse [1] (Host.reduceWindowAdd ![1, 2048] ![1, 1] ![0, 2047] ![0, 0] (Host.reverse [1] (sortedWeights V0)) (broadcastInDim S_ ![] bcast_S_S_ (constant S_ .f32 0x00000000#32)) reduceWindows_S2048x2048_S2048x2048_w1s1p0_0_w2048s1p2047_0 h_S_))⟩, ⟨S2048x1, (broadcastInDim S2048x1 ![] bcast_S_S2048x1 (constant S_ .f32 0x00000000#32))⟩] concatenates_S2048x2048_S2048x1_S2048x2049_d1

/-- Entry `(i, k)` of the suffix sums. -/
theorem suffixes_apply (i : Fin 2048) (k : Fin 2049) :
    suffixes V0 (ix2 i k) = ∑ m : Fin 2048, if k.val ≤ m.val then wgt (feats V0) i (order V0 i m) else 0 := by
  unfold suffixes
  pointwise
  by_cases hk : k.val < 2048
  · rw [dif_pos hk]
    refine (cumsum_host_apply (R := 2048) (N := 2048) (Nm1 := 2047) rfl (Host.reverse [1] (sortedWeights V0)) _ (by pointwise)
      reduceWindows_S2048x2048_S2048x2048_w1s1p0_0_w2048s1p2047_0 h_S_ i (⟨k.val, hk⟩ : Fin 2048).rev).trans ?_
    rw [← Equiv.sum_comp Fin.revPerm]
    refine Finset.sum_congr rfl fun m _ => ?_
    have e : (Host.reverse [1] (sortedWeights V0) : FVec Ideal S2048x2048 .f32) (ix2 i (Fin.revPerm m)) = wgt (feats V0) i (order V0 i m) := by
      rw [← sortedWeights_apply]
      refine congrArg (sortedWeights V0) ?_
      funext a
      match a with
      | ⟨0, _⟩ => rfl
      | ⟨1, _⟩ => exact Fin.rev_rev m
    rw [e]
    have h : Fin.revPerm m ≤ (⟨k.val, hk⟩ : Fin 2048).rev ↔ k.val ≤ m.val := Fin.rev_le_rev
    simp only [h]
  · rw [dif_neg hk]
    refine (Finset.sum_eq_zero fun m _ => if_neg ?_).symm
    have := m.isLt
    omega

/-- The sums over the samples at least as far away. -/
def negatives : FVec Ideal S2048x2048 .f32 :=
  select (Host.reduce IntOp.andi (andi (cmpi .sge (res_main_call8_v5 V0) (broadcastInDim S2048x2048x1 ![] bcast_S_S2048x2048x1 (constantI S_ 32 0#32))) (cmpi .sle (res_main_call8_v5 V0) (broadcastInDim S2048x2048x1 ![0, 1, 2] bcast_S1x1x1_S2048x2048x1_0_1_2 (broadcastInDim S1x1x1 ![2] bcast_S1_S1x1x1_2 (constantI S1 32 2048#32))))) (constantI S_ 1 1#1) reducesTo_S2048x2048x1_S2048x2048_d2 h_S_) (Host.gather gather_S2048x2049_S2048x2048x1_S2048x2048_n_1_0_0_1_2_11 (suffixes V0) (res_main_call8_v5 V0)) (broadcastInDim S2048x2048 ![] bcast_S_S2048x2048 (constant S_ .f32 0x7FC00000#32))

/-- Entry `(i, j)` of those sums. -/
theorem negatives_apply (i j : Fin 2048) : negatives V0 (ix2 i j) = neg (feats V0) (labels V0) i j := by
  refine (take_apply (N := 2049) (hi := 2048) rfl (by norm_num) _ rfl rfl rfl rfl rfl rfl (suffixes V0) (res_main_call8_v5 V0)
    (fun i j => ⟨closer V0 i j, by have := closer_le V0 i j; omega⟩) (call8_apply V0) _ i j).trans ?_
  rw [suffixes_apply]
  exact sum_from_card_below (dis (labels V0) i) (wgt (feats V0) i) (order V0 i) (order_injective V0 i) (order_mono V0 i) _

end Cert.ReferenceIdeal.Hand
-- ==== Proof.Ref.Value.lean ====
/- The reference's result: minus the mean over rows of the means within them. -/
module

public import proofs.«01_k».proof.Proof.Ref.Negative

@[expose] public section

set_option maxRecDepth 16384

noncomputable section

namespace Cert.ReferenceIdeal.Hand

open Cert.ReferenceIdeal Cert.ReferenceIdeal.Gen Cert.ReferenceIdeal.Value Cert.Contrast Idealize.ShloMosaic Idealize.ShloMosaic.TcCoe Idealize.SL.Sem

variable (V0 : Valuation τ sig (Elt Ideal))

/-- Each pair's log-ratio. -/
def ratios : FVec Ideal S2048x2048 .f32 :=
  subf (mulf (res_main_v28 V0) (subf (broadcastInDim S2048x2048 ![] bcast_S_S2048x2048 (constant S_ .f32 0x3F800000#32)) (res_main_v34 V0))) (Host.log (addf (mulf (negatives V0) (subf (broadcastInDim S2048x2048 ![] bcast_S_S2048x2048 (constant S_ .f32 0x3F800000#32)) (res_main_v34 V0))) (res_main_v34 V0)))

/-- One entry of the log-ratios, from the entries of the logits `L`, the identity `E` and the sums `N`. -/
theorem ratio_entry (L E N : FVec Ideal S2048x2048 .f32) (i j : Fin 2048) :
    subf (mulf L (subf (broadcastInDim S2048x2048 ![] bcast_S_S2048x2048 (constant S_ .f32 0x3F800000#32)) E)) (Host.log (addf (mulf N (subf (broadcastInDim S2048x2048 ![] bcast_S_S2048x2048 (constant S_ .f32 0x3F800000#32)) E)) E)) (ix2 i j)
      = (L (ix2 i j) * (1 - E (ix2 i j)) - Ideal.log (N (ix2 i j) * (1 - E (ix2 i j)) + E (ix2 i j)) : EReal) := by
  pointwise

/-- The same entry with the identity's value put in: zero on the diagonal. -/
theorem ratio_value (l n : EReal) (i j : Fin 2048) :
    l * (1 - if i = j then (1 : EReal) else 0) - Ideal.log (n * (1 - if i = j then (1 : EReal) else 0) + if i = j then (1 : EReal) else 0)
      = (if i = j then 0 else l) - Ideal.log (if i = j then 1 else n) := by
  rw [mul_off_diagonal, mul_off_diagonal]
  by_cases h : i = j
  · simp only [if_pos h, zero_add]
  · simp only [if_neg h, add_zero]

/-- Entry `(i, j)` of the log-ratios: zero on the diagonal. -/
theorem ratios_apply (i j : Fin 2048) :
    ratios V0 (ix2 i j) = pos (feats V0) i j - lneg (feats V0) (labels V0) i j := by
  refine (ratio_entry (res_main_v28 V0) (res_main_v34 V0) (negatives V0) i j).trans ?_
  rw [v28_apply, v34_apply, negatives_apply]
  exact ratio_value _ _ i j

/-- The result, as a function of the log-ratios. -/
def result : FVec Ideal S_ .f32 :=
  mulf (constant S_ .f32 0xBF800000#32) (Host.divf (Host.reduceAdd (Host.divf (Host.reduceAdd (ratios V0) (constant S_ .f32 0x00000000#32) reducesTo_S2048x2048_S2048_d1 h_S_) (broadcastInDim S2048 ![] bcast_S_S2048 (constant S_ .f32 0x44FFE000#32))) (constant S_ .f32 0x00000000#32) reducesTo_S2048_S_d0 h_S_) (constant S_ .f32 0x45000000#32))

/-- It is minus the mean of the rows' means, whatever the log-ratios are. -/
theorem means_eq (r : FVec Ideal S2048x2048 .f32) (j : S_.Idx) :
    mulf (constant S_ .f32 0xBF800000#32) (Host.divf (Host.reduceAdd (Host.divf (Host.reduceAdd r (constant S_ .f32 0x00000000#32) reducesTo_S2048x2048_S2048_d1 h_S_) (broadcastInDim S2048 ![] bcast_S_S2048 (constant S_ .f32 0x44FFE000#32))) (constant S_ .f32 0x00000000#32) reducesTo_S2048_S_d0 h_S_) (constant S_ .f32 0x45000000#32)) j
      = (-1 * Ideal.div (∑ i : Fin 2048, Ideal.div (∑ k : Fin 2048, r (ix2 i k)) (2047 : ℝ)) (2048 : ℝ) : EReal) := by
  pointwise
  rw [lit_neg_one, lit_others, lit_rows]

/-- It is minus the mean of the rows' means. -/
theorem result_eq : result V0 = fun _ => lossOfMeans (feats V0) (labels V0) := by
  funext j
  refine (means_eq (ratios V0) j).trans ?_
  unfold lossOfMeans
  simp only [ratios_apply]

/-- Every run of the reference ends with the mean of means in its result and its arguments as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75)
          = (fun _ => lossOfMeans (feats (StableHlo.launchContents m c)) (labels (StableHlo.launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, (h c).2⟩) (run m ρ)
  refine Eq.trans ?_ (result_eq (StableHlo.launchContents m c))
  unfold result ratios negatives suffixes sortedWeights weights
  exact (h c).1

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelHand.Run
public import proofs.«01_k».proof.Proof.KernelIdealHand.Run
public import proofs.«01_k».proof.Proof.KernelIdealHand.Value
public import proofs.«01_k».proof.Proof.Ref.Frame
public import proofs.«01_k».proof.Proof.Ref.Value
public import proofs.«01_k».proof.Proof.Math.Loss
public import Idealize.ShloMosaic.Adequacy
public import Idealize.ShloMosaic.Init

@[expose] public section

noncomputable section

namespace Cert.Proof

open Idealize.ShloMosaic Idealize.SL.Sem

/-- The kernel as printed runs and leaves its arguments and every counter as it found them. -/
theorem kernel_frame : Cert.quiescent_Kernel (hKernel := Cert.Kernel.Gen.facts) :=
  fun m g _ => Cert.Kernel.Hand.frame_main m g

/-- So does its idealization. -/
theorem kernel_ideal_frame : Cert.quiescent_KernelIdeal (hKernelIdeal := Cert.KernelIdeal.Gen.facts) :=
  fun m g _ => Cert.KernelIdeal.Hand.frame_main m g

/-- The one literal the idealization names: the temperature's negated reciprocal. -/
theorem named_temperature : Cert.preserves_Kernel_KernelIdeal :=
  IdealRules.named_const.statement Cert.KernelIdeal.κ "neg_inv_temperature" .f32 0xC1649249#32
    ((-134217728 / 9395241 : ℝ) : EReal) rfl

/-- Arguments that agree give the two programs the same feature rows. -/
theorem feats_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.feats (StableHlo.launchContents m' c)
      = Cert.KernelIdeal.Hand.kfeats (m ((c.tc : Thread Cert.KernelIdeal.nD Cert.KernelIdeal.τ).loc Cert.KernelIdeal.main_arg0)) := by
  rw [← h]
  rfl

/-- And the same labels. -/
theorem labels_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.labels (StableHlo.launchContents m' c)
      = Cert.KernelIdeal.Hand.klabels (m ((c.tc : Thread Cert.KernelIdeal.nD Cert.KernelIdeal.τ).loc Cert.KernelIdeal.main_arg1)) := by
  rw [← h]
  rfl

/-- The idealized kernel and the idealized reference compute the same loss: the kernel's sum of all rows over the number
    of ordered pairs is the reference's mean of the rows' means. -/
theorem value : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Hand.run_value m g, ?_⟩
  refine (θ_run _ _ _).mono (fun r h c => ⟨(h c).1.trans ?_, (h c).2⟩) (Cert.ReferenceIdeal.Hand.run_value m' g')
  rw [feats_eq m m' c (hagree c).1, labels_eq m m' c (hagree c).2, Cert.Contrast.lossOfMeans_eq]
  rfl

theorem claim : Cert.Claim :=
  ⟨Cert.Kernel.Gen.facts, Cert.KernelIdeal.Gen.facts, Cert.ReferenceIdeal.Gen.facts, kernel_frame, kernel_ideal_frame,
    ref_frame, named_temperature, value⟩

end Cert.Proof

end
